-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x48x48 : Shape := ⟨4, ![16, 64, 48, 48]⟩
abbrev S1024x64 : Shape := ⟨2, ![1024, 64]⟩
abbrev S16x48x48x64 : Shape := ⟨4, ![16, 48, 48, 64]⟩
abbrev S36864x64 : Shape := ⟨2, ![36864, 64]⟩
abbrev S64x1024 : Shape := ⟨2, ![64, 1024]⟩
abbrev S1x1 : Shape := ⟨2, ![1, 1]⟩
abbrev S_ : Shape := ⟨0, ![]⟩
abbrev S1152x64 : Shape := ⟨2, ![1152, 64]⟩
abbrev S1x1024 : Shape := ⟨2, ![1, 1024]⟩
abbrev S1152 : Shape := ⟨1, ![1152]⟩
abbrev S1152x1 : Shape := ⟨2, ![1152, 1]⟩
abbrev S1152x1024 : Shape := ⟨2, ![1152, 1024]⟩
abbrev S1024 : Shape := ⟨1, ![1024]⟩
abbrev S1x1152x64 : Shape := ⟨3, ![1, 1152, 64]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 12
  | .vmem => 11
  | .smem => 1
  | _ => 0

abbrev bufTy : (tb : Table) → Fin (tcTables nBuf tb) → BufTy
  | .hbm, ⟨0, _⟩ => ⟨S16x64x48x48, .f32⟩
  | .hbm, ⟨1, _⟩ => ⟨S1024x64, .f32⟩
  | .hbm, ⟨2, _⟩ => ⟨S16x48x48x64, .f32⟩
  | .hbm, ⟨3, _⟩ => ⟨S36864x64, .f32⟩
  | .hbm, ⟨4, _⟩ => ⟨S36864x64, .f32⟩
  | .hbm, ⟨5, _⟩ => ⟨S64x1024, .f32⟩
  | .hbm, ⟨6, _⟩ => ⟨S36864x64, .f32⟩
  | .hbm, ⟨7, _⟩ => ⟨S1x1, .f32⟩
  | .hbm, ⟨8, _⟩ => ⟨S1x1, .f32⟩
  | .hbm, ⟨9, _⟩ => ⟨S16x64x48x48, .f32⟩
  | .hbm, ⟨10, _⟩ => ⟨S_, .f32⟩
  | .hbm, ⟨11, _⟩ => ⟨S_, .f32⟩
  | .local _ .vmem, ⟨0, _⟩ => ⟨S1152x64, .f32⟩
  | .local _ .vmem, ⟨1, _⟩ => ⟨S1152x64, .f32⟩
  | .local _ .vmem, ⟨2, _⟩ => ⟨S1152x64, .f32⟩
  | .local _ .vmem, ⟨3, _⟩ => ⟨S1152x64, .f32⟩
  | .local _ .vmem, ⟨4, _⟩ => ⟨S64x1024, .f32⟩
  | .local _ .vmem, ⟨5, _⟩ => ⟨S1024x64, .f32⟩
  | .local _ .vmem, ⟨6, _⟩ => ⟨S1152x64, .f32⟩
  | .local _ .vmem, ⟨7, _⟩ => ⟨S1152x64, .f32⟩
  | .local _ .vmem, ⟨8, _⟩ => ⟨S1x1, .f32⟩
  | .local _ .vmem, ⟨9, _⟩ => ⟨S1x1, .f32⟩
  | .local _ .vmem, ⟨10, _⟩ => ⟨S1x1024, .f32⟩
  | .local _ .smem, ⟨0, _⟩ => ⟨S1x1, .f32⟩
  | _, _ => ⟨S16x64x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4_0 : Ref sig .tc := ⟨.hbm, 6, rfl⟩
abbrev main_call0_v4_1 : Ref sig .tc := ⟨.hbm, 7, rfl⟩
abbrev main_call0_v4_2 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch1 : Ref sig .tc := ⟨.vmem, 10, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v57 : BitVec 1 := Scalar.cmpi .eq arg0 c31_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x64x48x48 : Shape := ⟨4, ![16, 64, 48, 48]⟩
abbrev S1024x64 : Shape := ⟨2, ![1024, 64]⟩
abbrev S16x48x48x64 : Shape := ⟨4, ![16, 48, 48, 64]⟩
abbrev S36864x64 : Shape := ⟨2, ![36864, 64]⟩
abbrev S_ : Shape := ⟨0, ![]⟩
abbrev S36864 : Shape := ⟨1, ![36864]⟩
abbrev S36864x1 : Shape := ⟨2, ![36864, 1]⟩
abbrev S64x1024 : Shape := ⟨2, ![64, 1024]⟩
abbrev S36864x1024 : Shape := ⟨2, ![36864, 1024]⟩
abbrev S1024 : Shape := ⟨1, ![1024]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16x64x48x48, .f32⟩
  | .hbm, ⟨1, _⟩ => ⟨S1024x64, .f32⟩
  | .hbm, ⟨2, _⟩ => ⟨S16x48x48x64, .f32⟩
  | .hbm, ⟨3, _⟩ => ⟨S36864x64, .f32⟩
  | .hbm, ⟨4, _⟩ => ⟨S36864x64, .f32⟩
  | .hbm, ⟨5, _⟩ => ⟨S_, .f32⟩
  | .hbm, ⟨6, _⟩ => ⟨S36864, .f32⟩
  | .hbm, ⟨7, _⟩ => ⟨S36864x1, .f32⟩
  | .hbm, ⟨8, _⟩ => ⟨S_, .f32⟩
  | .hbm, ⟨9, _⟩ => ⟨S36864x64, .f32⟩
  | .hbm, ⟨10, _⟩ => ⟨S36864x64, .f32⟩
  | .hbm, ⟨11, _⟩ => ⟨S64x1024, .f32⟩
  | .hbm, ⟨12, _⟩ => ⟨S36864x1024, .f32⟩
  | .hbm, ⟨13, _⟩ => ⟨S36864x1024, .f32⟩
  | .hbm, ⟨14, _⟩ => ⟨S36864x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S36864x1024, .f32⟩
  | .hbm, ⟨20, _⟩ => ⟨S36864x1024, .f32⟩
  | .hbm, ⟨21, _⟩ => ⟨S36864x1024, .i32⟩
  | .hbm, ⟨22, _⟩ => ⟨S_, .f32⟩
  | .hbm, ⟨23, _⟩ => ⟨S_, .i32⟩
  | .hbm, ⟨24, _⟩ => ⟨S36864, .f32⟩
  | .hbm, ⟨25, _⟩ => ⟨S36864, .i32⟩
  | .hbm, ⟨26, _⟩ => ⟨S36864x1, .i32⟩
  | .hbm, ⟨27, _⟩ => ⟨S1x1024, .i32⟩
  | .hbm, ⟨28, _⟩ => ⟨S36864x1024, .i32⟩
  | .hbm, ⟨29, _⟩ => ⟨S36864x1024, .i32⟩
  | .hbm, ⟨30, _⟩ => ⟨S36864x1024, .i1⟩
  | .hbm, ⟨31, _⟩ => ⟨S36864x1024, .f32⟩
  | .hbm, ⟨32, _⟩ => ⟨S36864x64, .f32⟩
  | .hbm, ⟨33, _⟩ => ⟨S16x64x48x48, .f32⟩
  | .hbm, ⟨34, _⟩ => ⟨S16x64x48x48, .f32⟩
  | .hbm, ⟨35, _⟩ => ⟨S16x64x48x48, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x64x48x48, .f32⟩
  | .hbm, ⟨41, _⟩ => ⟨S16x64x48x48, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x64x48x48, .f32⟩
  | .hbm, ⟨50, _⟩ => ⟨S16x64x48x48, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S16x64x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Proof.NearestCode.lean ====
/- The nearest code of a row: the first index at which a row of distances is least. Both spellings give it: the kernel's
   least index among those whose distance equals the least distance, and the reference's fold of (distance, index) pairs. -/
module

public import Idealize.ShloMosaic.Lib.Pointwise
public import Idealize.ShloMosaic.PureOps.Ideal.Laws

@[expose] public section

noncomputable section

namespace Cert.Value

open Idealize.ShloMosaic

/-- `k` is the first index at which `d` is least. -/
def IsNearest (d : Fin 1024 → EReal) (k : Fin 1024) : Prop := (∀ j, d k ≤ d j) ∧ ∀ j, j < k → d k < d j

/-- Every row of distances has such an index. -/
theorem exists_nearest (d : Fin 1024 → EReal) : ∃ k, IsNearest d k := by
  obtain ⟨i, -, hi⟩ := Finset.exists_min_image Finset.univ d ⟨0, Finset.mem_univ _⟩
  obtain ⟨k, hk, hmin⟩ := Finset.exists_min_image (Finset.univ.filter fun k => d k = d i) id ⟨i, by simp⟩
  have hk' : d k = d i := (Finset.mem_filter.mp hk).2
  refine ⟨k, fun j => hk' ▸ hi j (Finset.mem_univ j), fun j hj => lt_of_le_of_ne (hk' ▸ hi j (Finset.mem_univ j)) fun he => ?_⟩
  have hle : k ≤ j := hmin j (Finset.mem_filter.mpr ⟨Finset.mem_univ j, he.symm.trans hk'⟩)
  exact absurd hle (not_le.mpr hj)

/-- The nearest code of a row of distances. -/
def nearest (d : Fin 1024 → EReal) : Fin 1024 := (exists_nearest d).choose

/-- The chosen code is a nearest one, and the first of them. -/
theorem nearest_spec (d : Fin 1024 → EReal) : IsNearest d (nearest d) := (exists_nearest d).choose_spec

/-- The one-hot row of a row of distances. -/
def hot (d : Fin 1024 → EReal) (k : Fin 1024) : EReal := if nearest d = k then 1 else 0

/-- The word of an index below 1024, read signed, is the index. -/
theorem toInt_code (k : Fin 1024) : (BitVec.ofNat 32 k.val).toInt = (k.val : ℤ) := by
  have := k.isLt
  rw [BitVec.toInt_eq_toNat_cond, BitVec.toNat_ofNat]
  omega

/-- Words of indices below 1024 are equal only for equal indices. -/
theorem code_inj {j k : Fin 1024} (h : BitVec.ofNat 32 j.val = BitVec.ofNat 32 k.val) : j = k := by
  have h' := congrArg BitVec.toInt h
  rw [toInt_code, toInt_code] at h'
  exact Fin.ext (by exact_mod_cast h')

/-- The signed minimum of two words, read signed. -/
theorem toInt_minsi' (a b : BitVec 32) : (IntOp.minsi a b).toInt = min a.toInt b.toInt := by
  unfold IntOp.minsi
  by_cases h : a.slt b = true
  · have h' : a.toInt < b.toInt := by simpa [BitVec.slt] using h
    simp [h, min_eq_left h'.le]
  · have h' : b.toInt ≤ a.toInt := by simpa [BitVec.slt] using h
    simp [h, min_eq_right h']

/-- The kernel's index: the least, read signed, of the indices whose distance is the least. -/
theorem fold_nearest (d : Fin 1024 → EReal) :
    Finset.fold IntOp.minsi (2147483647#32)
        (fun k : Fin 1024 => if d k = Finset.fold min (⊤ : EReal) d Finset.univ then BitVec.ofNat 32 k.val else 1024#32) Finset.univ
      = BitVec.ofNat 32 (nearest d).val := by
  have hs := nearest_spec d
  have hm : Finset.fold min (⊤ : EReal) d Finset.univ = d (nearest d) := by
    apply le_antisymm
    · rw [Finset.fold_min_le]; exact .inr ⟨_, Finset.mem_univ _, le_rfl⟩
    · rw [Finset.le_fold_min]; exact ⟨le_top, fun j _ => hs.1 j⟩
  rw [hm]
  apply BitVec.eq_of_toInt_eq
  rw [← Finset.fold_hom (op' := min) (m := BitVec.toInt) (fun a b => toInt_minsi' a b), toInt_code]
  have hlt := (nearest d).isLt
  apply le_antisymm
  · rw [Finset.fold_min_le]
    exact .inr ⟨nearest d, Finset.mem_univ _, by rw [if_pos rfl, toInt_code]⟩
  · rw [Finset.le_fold_min]
    refine ⟨?_, fun j _ => ?_⟩
    · rw [show (2147483647#32 : BitVec 32).toInt = 2147483647 from by decide]; omega
    · by_cases he : d j = d (nearest d)
      · rw [if_pos he, toInt_code]
        by_contra hj
        exact absurd he (ne_of_gt (hs.2 j (Fin.lt_def.mpr (by omega))))
      · rw [if_neg he, show (1024#32 : BitVec 32).toInt = 1024 from by decide]; omega

/-- One pair is before another: a lesser distance, or the same and an index no greater. -/
def Before (p q : EReal × BitVec 32) : Prop := p.1 < q.1 ∨ p.1 = q.1 ∧ p.2.toInt ≤ q.2.toInt

/-- A pair does not come after itself. -/
theorem Before.refl (p : EReal × BitVec 32) : Before p p := .inr ⟨rfl, le_rfl⟩

/-- The order of pairs is transitive. -/
theorem Before.trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- An operation that always picks one of its two pairs, and one that is before both, folds a list to one of its pairs or
    the initial one, before all of them. -/
theorem foldl_before (f : EReal × BitVec 32 → EReal × BitVec 32 → EReal × BitVec 32)
    (hf : ∀ p q, (f p q = p ∨ f p q = q) ∧ Before (f p q) p ∧ Before (f p q) q) (l : List (EReal × BitVec 32)) :
    ∀ i, (l.foldl f i = i ∨ l.foldl f i ∈ l) ∧ Before (l.foldl f i) i ∧ ∀ q ∈ l, Before (l.foldl f i) q := by
  induction l with
  | nil => exact fun i => ⟨.inl rfl, Before.refl i, fun q hq => absurd hq (List.not_mem_nil)⟩
  | cons a l ih =>
    intro i
    obtain ⟨hm, hi, hl⟩ := ih (f i a)
    obtain ⟨hp, h1, h2⟩ := hf i a
    rw [List.foldl_cons]
    refine ⟨?_, hi.trans h1, fun q hq => ?_⟩
    · rcases hm with hm | hm
      · rw [hm]; rcases hp with hp | hp
        · exact .inl hp
        · rw [hp]; exact .inr List.mem_cons_self
      · exact .inr (List.mem_cons_of_mem _ hm)
    · rcases List.mem_cons.mp hq with rfl | hq
      · exact hi.trans h2
      · exact hl q hq

/-- The reference's index: the fold, from (+∞, 0), of a list that holds exactly the pairs of a row. -/
theorem foldl_nearest (f : EReal × BitVec 32 → EReal × BitVec 32 → EReal × BitVec 32)
    (hf : ∀ p q, (f p q = p ∨ f p q = q) ∧ Before (f p q) p ∧ Before (f p q) q) (d : Fin 1024 → EReal)
    (l : List (EReal × BitVec 32)) (hl : ∀ p, p ∈ l ↔ ∃ k : Fin 1024, p = (d k, BitVec.ofNat 32 k.val)) :
    (l.foldl f (⊤, 0#32)).2 = BitVec.ofNat 32 (nearest d).val := by
  obtain ⟨hm, -, hb⟩ := foldl_before f hf l (⊤, 0#32)
  have hs := nearest_spec d
  have hn := hb (d (nearest d), BitVec.ofNat 32 (nearest d).val) ((hl _).mpr ⟨_, rfl⟩)
  rcases hm with hm | hm
  · rw [hm] at hn ⊢
    have htop : d (nearest d) = ⊤ := by
      rcases hn with hn | ⟨hn, -⟩
      · exact absurd hn not_top_lt
      · exact hn.symm
    have h0 : nearest d = 0 := by
      by_contra h0
      have hlt := hs.2 0 (Fin.pos_iff_ne_zero.mpr h0)
      rw [htop] at hlt
      exact absurd hlt not_top_lt
    rw [h0]; rfl
  · obtain ⟨k, hk⟩ := (hl _).mp hm
    rw [hk] at hn ⊢
    have hkn : k = nearest d := by
      rcases hn with hn | ⟨he, hi⟩
      · exact absurd (hs.1 k) (not_le.mpr hn)
      · dsimp only at he hi
        rw [toInt_code, toInt_code] at hi
        by_contra hne
        have hne' : k.val ≠ (nearest d).val := fun h => hne (Fin.ext h)
        exact absurd he (ne_of_gt (hs.2 k (Fin.lt_def.mpr (by omega))))
    rw [hkn]

/-- A finite non-negative factor goes into a sum. -/
theorem mul_sum_of_nonneg {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The constant 2.0 is the number two. -/
theorem ofBits_two : Ideal.ofBits .f32 1073741824#32 = ((2 : ℝ) : EReal) := by
  simp only [Ideal.ofBits, Ideal.ieee]
  simp
  rw [← EReal.coe_mul, EReal.coe_eq_coe_iff]
  norm_num

end Cert.Value
-- ==== Proof.KernelIdealBody.lean ====
/- One grid point's body of the idealized kernel, run on whole memrefs: what it leaves in its output block, in the two
   running totals (the sum of squared differences in scalar memory, the code counts in vector memory) and, at the last
   point, in the two scalar results. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a 1×1 array. -/
def at00 : S1x1.Idx := fun a => ⟨0, by revert a; decide⟩

/-- A 1×1 array has one index. -/
theorem eq_at00 (j : S1x1.Idx) : j = at00 := funext fun a => Fin.ext (by
  have h := (j a).isLt
  have hs : S1x1.size a = 1 := (by decide : ∀ a, S1x1.size a = 1) a
  show (j a).val = 0
  omega)

/-- The sum of squared differences after a point's body, from the one before (which the first point discards). -/
def sseStep (i : grid0.Coords) (x0 x1 : Vec F S1152x64 .f32) (x2 : Vec F S64x1024 .f32) (x3 : Vec F S1024x64 .f32)
    (s : Vec F S1x1 .f32) : Vec F S1x1 .f32 :=
  fun _ => k0_pay1 (BitVec.ofNat 32 (i 0).val) (k0_pay9 x0 x3 x2 x1) (s at00)

/-- The code counts after a point's body, from the ones before (which the first point discards). -/
def cntStep (i : grid0.Coords) (x0 : Vec F S1152x64 .f32) (x2 : Vec F S64x1024 .f32) (x3 : Vec F S1024x64 .f32)
    (n : Vec F S1x1024 .f32) : Vec F S1x1024 .f32 :=
  k0_pay2 (BitVec.ofNat 32 (i 0).val) (k0_pay5 x0 x3 x2) n

/-- A store of a whole buffer, read back, is what was stored. -/
theorem read_store {κ : Kind} {sp : Space} {S : Shape} {e : EltTy} (v : View sig κ sp S e) (f : v.ty.Contents (Elt F))
    {off : Fin S.rank → ℕ} (inb : ∀ a, off a + S.size a ≤ S.size a) (w : S.Idx → Elt F e) (h : ∀ a, off a = 0) :
    v.read (Elt F) (v.writes (Elt F) f [(⟨Rect.unit off S.size inb, w⟩ : View.Piece (Elt F) S e)]) = w := by
  obtain rfl : off = fun _ => 0 := funext h
  rw [View.read_writes_eq_canon v f _ (fun y => ⟨_, List.mem_singleton_self _, by
    show y ∈ (Rect.whole S).set
    rw [Rect.set_whole]; exact Finset.mem_univ y⟩), View.canon_unit_zero rfl]

/-- A load of a whole buffer reads its contents. -/
theorem load_whole {κ : Kind} {sp : Space} {S : Shape} {e : EltTy} (m : Memref sig κ sp S e) (hm : m.IsWhole) (x : S.Idx → Elt F e)
    {off : Fin S.rank → ℕ} (inb : ∀ a, off a + S.size a ≤ S.size a) (h : ∀ a, off a = 0) :
    m.view.readAt (Elt F) (Rect.unit off S.size inb).toLoadRect (hm.unread x) = x := by
  rw [View.readAt_eq_ld, hm.read_unread, View.ld_unit_lit inb x h]

section
variable (c : Dev nD) (i : grid0.Coords)
  (arg1 : Memref sig .tc .vmem S1152x64 .f32) (harg1 : arg1.IsWhole) (arg2 : Memref sig .tc .vmem S1152x64 .f32) (harg2 : arg2.IsWhole)
  (arg3 : Memref sig .tc .vmem S64x1024 .f32) (harg3 : arg3.IsWhole) (arg4 : Memref sig .tc .vmem S1024x64 .f32) (harg4 : arg4.IsWhole)
  (arg5 : Memref sig .tc .vmem S1152x64 .f32) (harg5 : arg5.IsWhole) (arg6 : Memref sig .tc .vmem S1x1 .f32) (harg6 : arg6.IsWhole)
  (arg7 : Memref sig .tc .vmem S1x1 .f32) (harg7 : arg7.IsWhole) (arg8 : Memref sig .tc .smem S1x1 .f32) (harg8 : arg8.IsWhole)
  (arg9 : Memref sig .tc .vmem S1x1024 .f32) (harg9 : arg9.IsWhole)
  (x0 x1 : Vec F S1152x64 .f32) (x2 : Vec F S64x1024 .f32) (x3 : Vec F S1024x64 .f32) (s : Vec F S1x1 .f32) (n : Vec F S1x1024 .f32)

/-- Before the last point: the body writes its block and steps the two totals; the scalar results' buffers stay as they were. -/
theorem body_mid (hc : ¬ k0_cond1 i = 1#1) (d6 d7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare d6 ∗ owns (c : Thread nD τ) arg7 fullShare d7
        ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay8 x0 x3 x2 x1)
            ∗ owns (c : Thread nD τ) arg6 fullShare d6 ∗ owns (c : Thread nD τ) arg7 fullShare d7
            ∗ owns (c : Thread nD τ) arg8 fullShare (sseStep i x0 x1 x2 x3 s) ∗ owns (c : Thread nD τ) arg9 fullShare (cntStep i x0 x2 x3 n)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9) K := by
  simp only [cc0__vq_body_eq_skeleton]; unfold cc0__vq_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg8.eq_unread hfs0; obtain rfl := harg9.eq_unread hfs1
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (read_store arg5.view _ _ _ (by decide)).trans ?_
    rw [load_whole arg1 harg1 x0 _ (by decide), load_whole arg4 harg4 x3 _ (by decide), load_whole arg3 harg3 x2 _ (by decide),
      load_whole arg2 harg2 x1 _ (by decide)]
  isplitl [H5]
  · iexists _; isplitr; swap; · iexact H5
    ipureintro; exact hf5
  isplitl [H6]
  · iexists _; isplitr; swap; · iexact H6
    ipureintro; exact hf6
  isplitl [HS0]
  · iexists _; isplitr; swap; · iexact HS0
    ipureintro
    sl_unfold_words
    refine (read_store arg8.view _ _ _ (by decide)).trans ?_
    rw [load_whole arg1 harg1 x0 _ (by decide), load_whole arg4 harg4 x3 _ (by decide), load_whole arg3 harg3 x2 _ (by decide),
      load_whole arg2 harg2 x1 _ (by decide)]
    erw [load_whole arg8 harg8 s inb_S1x1_S1x1_0_0 (by decide)]
    rw [eq_at00 (Shape.Idx.first _)]; rfl
  iexists _; isplitr; swap; · iexact HS1
  ipureintro
  sl_unfold_words
  refine (read_store arg9.view _ _ _ (by decide)).trans ?_
  rw [load_whole arg1 harg1 x0 _ (by decide), load_whole arg4 harg4 x3 _ (by decide), load_whole arg3 harg3 x2 _ (by decide)]
  erw [load_whole arg9 harg9 n inb_S1x1024_S1x1024_0_0 (by decide)]
  rfl

/-- At the last point: the body also writes the two scalar results, from the totals it has just stepped. -/
theorem body_last (hc : k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay8 x0 x3 x2 x1)
            ∗ owns (c : Thread nD τ) arg6 fullShare (k0_pay3 (sseStep i x0 x1 x2 x3 s at00))
            ∗ owns (c : Thread nD τ) arg7 fullShare (k0_pay4 (cntStep i x0 x2 x3 n))
            ∗ owns (c : Thread nD τ) arg8 fullShare (sseStep i x0 x1 x2 x3 s) ∗ owns (c : Thread nD τ) arg9 fullShare (cntStep i x0 x2 x3 n)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9) K := by
  simp only [cc0__vq_body_eq_skeleton]; unfold cc0__vq_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg8.eq_unread hfs0; obtain rfl := harg9.eq_unread hfs1
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (read_store arg5.view _ _ _ (by decide)).trans ?_
    rw [load_whole arg1 harg1 x0 _ (by decide), load_whole arg4 harg4 x3 _ (by decide), load_whole arg3 harg3 x2 _ (by decide),
      load_whole arg2 harg2 x1 _ (by decide)]
  isplitl [H5]
  · iexists _; isplitr; swap; · iexact H5
    ipureintro
    sl_unfold_words
    refine (read_store arg6.view _ _ _ (by decide)).trans ?_
    rw [load_whole arg1 harg1 x0 _ (by decide), load_whole arg4 harg4 x3 _ (by decide), load_whole arg3 harg3 x2 _ (by decide),
      load_whole arg2 harg2 x1 _ (by decide)]
    erw [load_whole arg8 harg8 s inb_S1x1_S1x1_0_0 (by decide)]
    rw [eq_at00 (Shape.Idx.first _)]; rfl
  isplitl [H6]
  · iexists _; isplitr; swap; · iexact H6
    ipureintro
    sl_unfold_words
    refine (read_store arg7.view _ _ _ (by decide)).trans ?_
    rw [load_whole arg1 harg1 x0 _ (by decide), load_whole arg4 harg4 x3 _ (by decide), load_whole arg3 harg3 x2 _ (by decide)]
    erw [load_whole arg9 harg9 n inb_S1x1024_S1x1024_0_0 (by decide)]
    erw [View.readCov_unit_lit arg9.view inb_S1x1024_S1x1024_0_0 _ (by decide)]
    rfl
  isplitl [HS0]
  · iexists _; isplitr; swap; · iexact HS0
    ipureintro
    sl_unfold_words
    refine (read_store arg8.view _ _ _ (by decide)).trans ?_
    rw [load_whole arg1 harg1 x0 _ (by decide), load_whole arg4 harg4 x3 _ (by decide), load_whole arg3 harg3 x2 _ (by decide),
      load_whole arg2 harg2 x1 _ (by decide)]
    erw [load_whole arg8 harg8 s inb_S1x1_S1x1_0_0 (by decide)]
    rw [eq_at00 (Shape.Idx.first _)]; rfl
  iexists _; isplitr; swap; · iexact HS1
  ipureintro
  sl_unfold_words
  refine (read_store arg9.view _ _ _ (by decide)).trans ?_
  rw [load_whole arg1 harg1 x0 _ (by decide), load_whole arg4 harg4 x3 _ (by decide), load_whole arg3 harg3 x2 _ (by decide)]
  erw [load_whole arg9 harg9 n inb_S1x1024_S1x1024_0_0 (by decide)]
  rfl

end

end Cert.KernelIdeal.Run

end
-- ==== Proof.KernelIdealRun.lean ====
/- The idealized kernel's run: the two running totals between grid points, the proof data of its launch, and the launch
   itself, from which the frame follows and the result arrays are read. -/
module

public import proofs.«01_k».proof.Proof.KernelIdealBody

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two running totals -/

/-- The sum of squared differences and the code counts after the first `n` points (before the first: zero, which the
    first point does not read). -/
def totals (c : Dev nD) : ℕ → Vec F S1x1 .f32 × Vec F S1x1024 .f32
  | 0 => (fun _ => Scalar.ofBits .f32 0x00000000#32, fun _ => Scalar.ofBits .f32 0x00000000#32)
  | n + 1 =>
    if h : n < cfg0.N then
      (sseStep (grid0.coords ⟨n, h⟩) (iblk m c 0 ⟨n, h⟩) (iblk m c 1 ⟨n, h⟩) (iblk m c 2 ⟨n, h⟩) (iblk m c 3 ⟨n, h⟩) (totals c n).1,
       cntStep (grid0.coords ⟨n, h⟩) (iblk m c 0 ⟨n, h⟩) (iblk m c 2 ⟨n, h⟩) (iblk m c 3 ⟨n, h⟩) (totals c n).2)
    else totals c n

/-- One more point steps both totals. -/
theorem totals_succ (c : Dev nD) (t : Fin cfg0.N) :
    totals m c (t.val + 1) =
      (sseStep (grid0.coords t) (iblk m c 0 t) (iblk m c 1 t) (iblk m c 2 t) (iblk m c 3 t) (totals m c t.val).1,
       cntStep (grid0.coords t) (iblk m c 0 t) (iblk m c 2 t) (iblk m c 3 t) (totals m c t.val).2) := by
  rw [totals, dif_pos t.isLt]

/-- The first point discards the sum it finds. -/
theorem sseStep_first (i : grid0.Coords) (hi : (i 0).val = 0) (x0 x1 : Vec F S1152x64 .f32) (x2 : Vec F S64x1024 .f32)
    (x3 : Vec F S1024x64 .f32) (s s' : Vec F S1x1 .f32) : sseStep i x0 x1 x2 x3 s = sseStep i x0 x1 x2 x3 s' := by
  unfold sseStep; rw [hi]; rfl

/-- The first point discards the counts it finds. -/
theorem cntStep_first (i : grid0.Coords) (hi : (i 0).val = 0) (x0 : Vec F S1152x64 .f32) (x2 : Vec F S64x1024 .f32)
    (x3 : Vec F S1024x64 .f32) (n n' : Vec F S1x1024 .f32) : cntStep i x0 x2 x3 n = cntStep i x0 x2 x3 n' := by
  unfold cntStep; rw [hi]; rfl

/-- The body's condition holds exactly at the last point. -/
theorem cond_iff : ∀ t : Fin grid0.N, k0_cond1 (grid0.coords t) = 1#1 ↔ t.val = 31 := by decide +kernel

/-- The one grid coordinate is the point's number. -/
theorem coord_val : ∀ t : Fin grid0.N, ((grid0.coords t) 0).val = t.val := by decide +kernel

/-! ## The launch's proof data -/

/-- Window 0's staging memref at a point, and that it is whole. -/
abbrev stg0 (t : Fin cfg0.N) : Memref sig .tc .vmem S1152x64 .f32 := win0_0.stage (cfg0.slots t 0)
/-- Window 0's staging memref is whole. -/
abbrev whole0 (t : Fin cfg0.N) : (stg0 t).IsWhole := hstage0_0 ((cfg0.slots t 0).cast nbuf0_0)
/-- Window 1's staging memref at a point, and that it is whole. -/
abbrev stg1 (t : Fin cfg0.N) : Memref sig .tc .vmem S1152x64 .f32 := win0_1.stage (cfg0.slots t 1)
/-- Window 1's staging memref is whole. -/
abbrev whole1 (t : Fin cfg0.N) : (stg1 t).IsWhole := hstage0_1 ((cfg0.slots t 1).cast nbuf0_1)
/-- Window 2's staging memref at a point, and that it is whole. -/
abbrev stg2 (t : Fin cfg0.N) : Memref sig .tc .vmem S64x1024 .f32 := win0_2.stage (cfg0.slots t 2)
/-- Window 2's staging memref is whole. -/
abbrev whole2 (t : Fin cfg0.N) : (stg2 t).IsWhole := hstage0_2 ((cfg0.slots t 2).cast nbuf0_2)
/-- Window 3's staging memref at a point, and that it is whole. -/
abbrev stg3 (t : Fin cfg0.N) : Memref sig .tc .vmem S1024x64 .f32 := win0_3.stage (cfg0.slots t 3)
/-- Window 3's staging memref is whole. -/
abbrev whole3 (t : Fin cfg0.N) : (stg3 t).IsWhole := hstage0_3 ((cfg0.slots t 3).cast nbuf0_3)
/-- Window 4's staging memref at a point, and that it is whole. -/
abbrev stg4 (t : Fin cfg0.N) : Memref sig .tc .vmem S1152x64 .f32 := win0_4.stage (cfg0.slots t 4)
/-- Window 4's staging memref is whole. -/
abbrev whole4 (t : Fin cfg0.N) : (stg4 t).IsWhole := hstage0_4 ((cfg0.slots t 4).cast nbuf0_4)
/-- Window 5's staging memref at a point, and that it is whole. -/
abbrev stg5 (t : Fin cfg0.N) : Memref sig .tc .vmem S1x1 .f32 := win0_5.stage (cfg0.slots t 5)
/-- Window 5's staging memref is whole. -/
abbrev whole5 (t : Fin cfg0.N) : (stg5 t).IsWhole := hstage0_5 ((cfg0.slots t 5).cast nbuf0_5)
/-- Window 6's staging memref at a point, and that it is whole. -/
abbrev stg6 (t : Fin cfg0.N) : Memref sig .tc .vmem S1x1 .f32 := win0_6.stage (cfg0.slots t 6)
/-- Window 6's staging memref is whole. -/
abbrev whole6 (t : Fin cfg0.N) : (stg6 t).IsWhole := hstage0_6 ((cfg0.slots t 6).cast nbuf0_6)

/-- The two totals' buffers. -/
abbrev sseBuf : Memref sig .tc .smem S1x1 .f32 := Memref.whole cc0_scratch0
/-- The scratch buffer of the counts. -/
abbrev cntBuf : Memref sig .tc .vmem S1x1024 .f32 := Memref.whole cc0_scratch1

/-- What the launch hands the region: the totals' buffers at anything, and the generator's register. -/
theorem launch_inv (c : Dev nD) :
    (Pipeline.ΦA spec0 c : sProp 𝕄)
      = iprop(iprop((∃ d, owns (c : Thread nD τ) cntBuf fullShare d) ∗ (∃ d, owns (c : Thread nD τ) sseBuf fullShare d)) ∗ (∃ r, prngReg c r)) := by
  unfold Pipeline.ΦA; rw [scopedRest0_eq]; simp only [sseBuf, cntBuf, owns_whole]; try rfl

/-- Between points: the totals' buffers hold the totals (before the first point, anything). -/
def Inv (c : Dev nD) (n : ℕ) : sProp 𝕄 :=
  iprop(∃ s k, ⌜n ≠ 0 → s = (totals m c n).1 ∧ k = (totals m c n).2⌝
    ∗ owns (c : Thread nD τ) cntBuf fullShare k ∗ owns (c : Thread nD τ) sseBuf fullShare s ∗ (∃ r, prngReg c r))

/-- The proof data: each input's buffer keeps its block, the output's buffer gets the point's payload, the two scalar
    results' buffers what the totals give (read at the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay8 (iblk m c 0 t) (iblk m c 3 t) (iblk m c 2 t) (iblk m c 1 t)
    | ⟨5, _⟩ => k0_pay3 ((totals m c (t.val + 1)).1 at00)
    | ⟨6, _⟩ => k0_pay4 (totals m c (t.val + 1)).2
  Φ t := Inv m c t.val
  q _ := fullShare
  owed _ := 0

/-- The arrays the data start from are the ones at the region's entry. -/
theorem A_eq (c : Dev nD) (w : Fin cfg0.W) : (dats m 0 c).A w = V m c (Pipeline.arrRef spec0 w) := by
  dsimp only [dats]

section
variable (c : Dev nD) (t : Fin cfg0.N)

/-! What the body leaves, window by window. -/
theorem after0 : (dats m 0 c).after 0 t = iblk m c 0 t := by dsimp only [dats]
/-- The body leaves window 1's block as it was. -/
theorem after1 : (dats m 0 c).after 1 t = iblk m c 1 t := by dsimp only [dats]
/-- The body leaves window 2's block as it was. -/
theorem after2 : (dats m 0 c).after 2 t = iblk m c 2 t := by dsimp only [dats]
/-- The body leaves window 3's block as it was. -/
theorem after3 : (dats m 0 c).after 3 t = iblk m c 3 t := by dsimp only [dats]
/-- The body leaves the point's output in window 4. -/
theorem after4 : (dats m 0 c).after 4 t = k0_pay8 (iblk m c 0 t) (iblk m c 3 t) (iblk m c 2 t) (iblk m c 1 t) := by dsimp only [dats]
/-- Window 5's buffer: the loss of the total. -/
theorem after5 : (dats m 0 c).after 5 t = k0_pay3 ((totals m c (t.val + 1)).1 at00) := by dsimp only [dats]
/-- Window 6's buffer: the perplexity of the counts. -/
theorem after6 : (dats m 0 c).after 6 t = k0_pay4 (totals m c (t.val + 1)).2 := by dsimp only [dats]

/-! What the body finds in the inputs' buffers: their blocks. -/
theorem before0 (d) : (dats m 0 c).before 0 t d = iblk m c 0 t := before0_0_of m (dats m 0 c) (A_eq m c 0) (after0 m c) t d
/-- The body finds window 1's block. -/
theorem before1 (d) : (dats m 0 c).before 1 t d = iblk m c 1 t := before0_1_of m (dats m 0 c) (A_eq m c 1) (after1 m c) t d
/-- The body finds window 2's block. -/
theorem before2 (d) : (dats m 0 c).before 2 t d = iblk m c 2 t := before0_2_of m (dats m 0 c) (A_eq m c 2) (after2 m c) t d
/-- The body finds window 3's block. -/
theorem before3 (d) : (dats m 0 c).before 3 t d = iblk m c 3 t := before0_3_of m (dats m 0 c) (A_eq m c 3) (after3 m c) t d
end

/-- From what the invariant says of the buffers before a point, stepping them gives the totals after it. -/
theorem step_eq (c : Dev nD) (t : Fin cfg0.N) (s : Vec F S1x1 .f32) (k : Vec F S1x1024 .f32)
    (h : t.val ≠ 0 → s = (totals m c t.val).1 ∧ k = (totals m c t.val).2) :
    sseStep (grid0.coords t) (iblk m c 0 t) (iblk m c 1 t) (iblk m c 2 t) (iblk m c 3 t) s = (totals m c (t.val + 1)).1
      ∧ cntStep (grid0.coords t) (iblk m c 0 t) (iblk m c 2 t) (iblk m c 3 t) k = (totals m c (t.val + 1)).2 := by
  rw [totals_succ]
  by_cases hz : t.val = 0
  · exact ⟨sseStep_first _ ((coord_val t).trans hz) _ _ _ _ _ _, cntStep_first _ ((coord_val t).trans hz) _ _ _ _ _⟩
  · obtain ⟨rfl, rfl⟩ := h hz; exact ⟨rfl, rfl⟩

/-! The scalar results' windows rest at every point but the last, where nothing flushes them. -/
theorem idle5 : ∀ t : Fin cfg0.N, t.val ≠ 31 → cfg0.idle 5 (grid0.coords t) = true := by decide +kernel
/-- Before the last point the body leaves window 6 alone. -/
theorem idle6 : ∀ t : Fin cfg0.N, t.val ≠ 31 → cfg0.idle 6 (grid0.coords t) = true := by decide +kernel
/-- Before the last point window 5 is not written back. -/
theorem noflush5 : ∀ t : Fin cfg0.N, t.val ≠ 31 → (cfg0.win 5).flush t = false := by decide +kernel
/-- Before the last point window 6 is not written back. -/
theorem noflush6 : ∀ t : Fin cfg0.N, t.val ≠ 31 → (cfg0.win 6).flush t = false := by decide +kernel
/-- At the last point the body writes window 5. -/
theorem live5 : ∀ t : Fin cfg0.N, t.val = 31 → cfg0.idle 5 (grid0.coords t) = false := by decide +kernel
/-- At the last point the body writes window 6. -/
theorem live6 : ∀ t : Fin cfg0.N, t.val = 31 → cfg0.idle 6 (grid0.coords t) = false := by decide +kernel

/-- What a point's body is called with, window by window. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A window the configuration calls live leaves what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point, from the invariant before it to the invariant after it. -/
theorem body_sound (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl,
    show (dats m 0 c).Φ t.succ = Inv m c (t.val + 1) from rfl, show (dats m 0 c).Φ t.castSucc = Inv m c t.val from rfl,
    leaves_live m c 0 t rfl, leaves_live m c 1 t rfl, leaves_live m c 2 t rfl, leaves_live m c 3 t rfl, leaves_live m c 4 t rfl,
    after0, after1, after2, after3, after4]
  unfold Inv
  by_cases hl : t.val = 31
  · rw [leaves_live m c 5 t (live5 t hl), leaves_live m c 6 t (live6 t hl), after5, after6]
    iintro ⟨⟨%s, %k, %hs, HN, HS, Hg⟩, Ho, ⟨%d0, H0⟩, ⟨%d1, H1⟩, ⟨%d2, H2⟩, ⟨%d3, H3⟩, ⟨%d4, H4⟩, ⟨%d5, H5⟩, ⟨%d6, H6⟩⟩
    obtain ⟨e1, e2⟩ := step_eq m c t s k hs
    iapply (body_last c (grid0.coords t) _ _ _ _ _ _ _ _ _ _ _ _ _ _ _ _ _ _ (iblk m c 0 t) (iblk m c 1 t) (iblk m c 2 t) (iblk m c 3 t) s k ((cond_iff t).mpr hl) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    isplitl [HN]; · iexact HN
    rw [e1, e2]
    iintro ⟨H0, H1, H2, H3, H4, H5, H6, HS, HN⟩
    isplitl [HS HN Hg]
    · iexists _, _
      isplitr; · ipureintro; exact fun _ => ⟨rfl, rfl⟩
      isplitl [HN]; · iexact HN
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dats m 0 c) 5 t (idle5 t hl) (noflush5 t hl), Dat.leavesExact_idle (dats m 0 c) 6 t (idle6 t hl) (noflush6 t hl)]
    iintro ⟨⟨%s, %k, %hs, HN, HS, Hg⟩, Ho, ⟨%d0, H0⟩, ⟨%d1, H1⟩, ⟨%d2, H2⟩, ⟨%d3, H3⟩, ⟨%d4, H4⟩, ⟨%d5, H5⟩, ⟨%d6, H6⟩⟩
    obtain ⟨e1, e2⟩ := step_eq m c t s k hs
    iapply (body_mid c (grid0.coords t) _ _ _ _ _ _ _ _ _ _ _ _ _ _ _ _ _ _ (iblk m c 0 t) (iblk m c 1 t) (iblk m c 2 t) (iblk m c 3 t) s k (fun h => hl ((cond_iff t).mp h)) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    isplitl [HN]; · iexact HN
    rw [e1, e2]
    iintro ⟨H0, H1, H2, H3, H4, H5, H6, HS, HN⟩
    isplitl [HS HN Hg]
    · iexists _, _
      isplitr; · ipureintro; exact fun _ => ⟨rfl, rfl⟩
      isplitl [HN]; · iexact HN
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The launch's body table has this body at every point. -/
theorem table_row (t : Fin cfg0.N) : defs₀ (F := F) .tc cfg0.body (cfg0.bodyArgs t (cfg0.slots t)) = bodyAt0 t := by
  unfold defs₀; rw [Defs.onTc_tc]

/-- The body meets the launch's obligation at every point. -/
theorem obligation (c : Dev nD) : BodyObligation (dats (F := F) m 0 c) (defs₀ (F := F)) Variants.none () Set.univ := fun t => by
  rw [bigSep_W0, bigSep_W0, table_row]
  exact triple_restated (body_sound m c t) rfl .rfl fun _ => .rfl

/-- The launch's hand-over is the invariant before the first point. -/
theorem enter (c : Dev nD) : Pipeline.ΦA spec0 c ⊢ (dats m 0 c).Φ 0 := by
  rw [show (dats m 0 c).Φ 0 = Inv m c 0 from rfl, launch_inv]
  unfold Inv
  iintro ⟨⟨⟨%k, HN⟩, ⟨%s, HS⟩⟩, Hg⟩
  iexists s, k
  isplitr; · ipureintro; exact fun h => absurd rfl h
  isplitl [HN]; · iexact HN
  isplitl [HS]; · iexact HS
  iexact Hg

/-- The invariant after the last point gives the hand-over back. -/
theorem leave (c : Dev nD) : (dats m 0 c).Φ (Fin.last cfg0.N) ⊢ Pipeline.ΦA spec0 c := by
  rw [show (dats m 0 c).Φ (Fin.last cfg0.N) = Inv m c (Fin.last cfg0.N).val from rfl, launch_inv]
  unfold Inv
  iintro ⟨%s, %k, -, HN, HS, Hg⟩
  isplitl [HN HS]
  · isplitl [HN]; · iexists _; iexact HN
    iexists _; iexact HS
  iexact Hg

/-! ## The launch -/

set_option backward.isDefEq.respectTransparency.types false in
set_option maxHeartbeats 800000 in
/-- Every run of the program ends with the pipeline's arrays at what the proof data give, every other buffer as the
    operations after the region leave it, and every semaphore counter at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame: every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Run

end
-- ==== Proof.ReferenceRun.lean ====
/- The reference's run: its operations in order, in three stretches (the distances, the nearest codes as one-hot rows, the
   results), and what each result buffer holds at the end as a term of the two arguments. -/
module

public import proofs.«01_k».proof.Proof.Gen.ReferenceIdeal
public import Idealize.ShloMosaic.Lib.StableHlo.Run
public import Idealize.ShloMosaic.Lib.Quiescent
public import Idealize.ShloMosaic.Lib.Claim

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations up to the distances. -/
abbrev opsDist : List (HloOp τ sig (Elt F)) :=
  [ unary main_arg0 main_v0 ((transpose S16x48x48x64 [0, 2, 3, 1] · transposes_S16x64x48x48_S16x48x48x64_0_2_3_1) : (⟨S16x64x48x48, .f32⟩ : BufTy).Contents (Elt F) → (⟨S16x48x48x64, .f32⟩ : BufTy).Contents (Elt F)),
    reshape main_v0 main_v1 (rfl : (.f32 : EltTy) = .f32) shapeCasts_S16x48x48x64_S36864x64,
    binary main_v1 main_v1 main_v2 (mulf : (⟨S36864x64, .f32⟩ : BufTy).Contents (Elt F) → (⟨S36864x64, .f32⟩ : BufTy).Contents (Elt F) → (⟨S36864x64, .f32⟩ : BufTy).Contents (Elt F)),
    nullary main_cst (constant S_ .f32 0x00000000#32),
    binary main_v2 main_cst main_v3 ((fun x v => Host.reduceAdd x v reducesTo_S36864x64_S36864_d1 h_S_) : (⟨S36864x64, .f32⟩ : BufTy).Contents (Elt F) → (⟨S_, .f32⟩ : BufTy).Contents (Elt F) → (⟨S36864, .f32⟩ : BufTy).Contents (Elt F)),
    unary main_v3 main_v4 (broadcastInDim S36864x1 ![0] bcast_S36864_S36864x1_0 : (⟨S36864, .f32⟩ : BufTy).Contents (Elt F) → (⟨S36864x1, .f32⟩ : BufTy).Contents (Elt F)),
    nullary main_cst_0 (constant S_ .f32 0x40000000#32),
    unary main_cst_0 main_v5 (broadcastInDim S36864x64 ![] bcast_S_S36864x64 : (⟨S_, .f32⟩ : BufTy).Contents (Elt F) → (⟨S36864x64, .f32⟩ : BufTy).Contents (Elt F)),
    binary main_v5 main_v1 main_v6 (mulf : (⟨S36864x64, .f32⟩ : BufTy).Contents (Elt F) → (⟨S36864x64, .f32⟩ : BufTy).Contents (Elt F) → (⟨S36864x64, .f32⟩ : BufTy).Contents (Elt F)),
    unary main_arg1 main_v7 ((transpose S64x1024 [1, 0] · transposes_S1024x64_S64x1024_1_0) : (⟨S1024x64, .f32⟩ : BufTy).Contents (Elt F) → (⟨S64x1024, .f32⟩ : BufTy).Contents (Elt F)),
    binary main_v6 main_v7 main_v8 ((fun l r => Host.dotGeneral dot_S36864x64_S64x1024_S36864x1024_1_0_0_1_n_n none l r) : (⟨S36864x64, .f32⟩ : BufTy).Contents (Elt F) → (⟨S64x1024, .f32⟩ : BufTy).Contents (Elt F) → (⟨S36864x1024, .f32⟩ : BufTy).Contents (Elt F)),
    unary main_v4 main_v9 (broadcastInDim S36864x1024 ![0, 1] bcast_S36864x1_S36864x1024_0_1 : (⟨S36864x1, .f32⟩ : BufTy).Contents (Elt F) → (⟨S36864x1024, .f32⟩ : BufTy).Contents (Elt F)),
    binary main_v9 main_v8 main_v10 (subf : (⟨S36864x1024, .f32⟩ : BufTy).Contents (Elt F) → (⟨S36864x1024, .f32⟩ : BufTy).Contents (Elt F) → (⟨S36864x1024, .f32⟩ : BufTy).Contents (Elt F)),
    binary main_arg1 main_arg1 main_v11 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v11 main_cst_1 main_v12 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S36864x1024 ![0, 1] bcast_S1x1024_S36864x1024_0_1 : (⟨S1x1024, .f32⟩ : BufTy).Contents (Elt F) → (⟨S36864x1024, .f32⟩ : BufTy).Contents (Elt F)),
    binary main_v10 main_v14 main_v15 (addf : (⟨S36864x1024, .f32⟩ : BufTy).Contents (Elt F) → (⟨S36864x1024, .f32⟩ : BufTy).Contents (Elt F) → (⟨S36864x1024, .f32⟩ : BufTy).Contents (Elt F)) ]

/-- The operations of the two calls: the nearest code of every row, and its one-hot row. -/
abbrev opsEnc : List (HloOp τ sig (Elt F)) :=
  [ TRef.nullary (TRef.of (T := ⟨S36864x1024, .i32⟩) main_call0_v0) (iotaInDim S36864x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S36864x1024, .f32⟩) main_v15) (TRef.of (T := ⟨S36864x1024, .i32⟩) main_call0_v0) (TRef.of (T := ⟨S_, .f32⟩) main_call0_cst) (TRef.of (T := ⟨S_, .i32⟩) main_call0_c) (TRef.of (T := ⟨S36864, .f32⟩) main_call0_v1_0) (fun x y u v j => (Host.argReduce reducer_argmin_f32_i32 x y u v reducesTo_S36864x1024_S36864_d1 h_S_ j).1),
    TRef.quaternary (TRef.of (T := ⟨S36864x1024, .f32⟩) main_v15) (TRef.of (T := ⟨S36864x1024, .i32⟩) main_call0_v0) (TRef.of (T := ⟨S_, .f32⟩) main_call0_cst) (TRef.of (T := ⟨S_, .i32⟩) main_call0_c) (TRef.of (T := ⟨S36864, .i32⟩) main_v16) (fun x y u v j => (Host.argReduce reducer_argmin_f32_i32 x y u v reducesTo_S36864x1024_S36864_d1 h_S_ j).2),
    TRef.unary (TRef.of (T := ⟨S36864, .i32⟩) main_v16) (TRef.of (T := ⟨S36864x1, .i32⟩) main_call1_v0) (broadcastInDim S36864x1 ![0] bcast_S36864_S36864x1_0),
    TRef.nullary (TRef.of (T := ⟨S1x1024, .i32⟩) main_call1_v1) (iotaInDim S1x1024 32 1),
    TRef.unary (TRef.of (T := ⟨S36864x1, .i32⟩) main_call1_v0) (TRef.of (T := ⟨S36864x1024, .i32⟩) main_call1_v2) (broadcastInDim S36864x1024 ![0, 1] bcast_S36864x1_S36864x1024_0_1),
    TRef.unary (TRef.of (T := ⟨S1x1024, .i32⟩) main_call1_v1) (TRef.of (T := ⟨S36864x1024, .i32⟩) main_call1_v3) (broadcastInDim S36864x1024 ![0, 1] bcast_S1x1024_S36864x1024_0_1),
    TRef.binary (TRef.of (T := ⟨S36864x1024, .i32⟩) main_call1_v2) (TRef.of (T := ⟨S36864x1024, .i32⟩) main_call1_v3) (TRef.of (T := ⟨S36864x1024, .i1⟩) main_call1_v4) (cmpi .eq),
    TRef.unary (TRef.of (T := ⟨S36864x1024, .i1⟩) main_call1_v4) (TRef.of (T := ⟨S36864x1024, .f32⟩) main_v17) (uitofp .f32) ]

/-- The operations from the one-hot rows to the results. -/
abbrev opsOut : List (HloOp τ sig (Elt F)) :=
  [ binary main_v17 main_arg1 main_v18 ((fun l r => Host.dotGeneral dot_S36864x1024_S1024x64_S36864x64_1_0_0_1_n_n none l r) : (⟨S36864x1024, .f32⟩ : BufTy).Contents (Elt F) → (⟨S1024x64, .f32⟩ : BufTy).Contents (Elt F) → (⟨S36864x64, .f32⟩ : BufTy).Contents (Elt F)),
    reshape main_v18 main_v19 (rfl : (.f32 : EltTy) = .f32) shapeCasts_S36864x64_S16x64x48x48,
    binary main_v19 main_arg0 main_v20 (subf : (⟨S16x64x48x48, .f32⟩ : BufTy).Contents (Elt F) → (⟨S16x64x48x48, .f32⟩ : BufTy).Contents (Elt F) → (⟨S16x64x48x48, .f32⟩ : BufTy).Contents (Elt F)),
    binary main_v20 main_v20 main_v21 (mulf : (⟨S16x64x48x48, .f32⟩ : BufTy).Contents (Elt F) → (⟨S16x64x48x48, .f32⟩ : BufTy).Contents (Elt F) → (⟨S16x64x48x48, .f32⟩ : BufTy).Contents (Elt F)),
    nullary main_cst_2 (constant S_ .f32 0x00000000#32),
    binary main_v21 main_cst_2 main_v22 ((fun x v => Host.reduceAdd x v reducesTo_S16x64x48x48_S_d0_1_2_3 h_S_) : (⟨S16x64x48x48, .f32⟩ : BufTy).Contents (Elt F) → (⟨S_, .f32⟩ : BufTy).Contents (Elt F) → (⟨S_, .f32⟩ : BufTy).Contents (Elt F)),
    nullary main_cst_3 (constant S_ .f32 0x4A100000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_arg0 main_v24 (subf : (⟨S16x64x48x48, .f32⟩ : BufTy).Contents (Elt F) → (⟨S16x64x48x48, .f32⟩ : BufTy).Contents (Elt F) → (⟨S16x64x48x48, .f32⟩ : BufTy).Contents (Elt F)),
    binary main_v24 main_v24 main_v25 (mulf : (⟨S16x64x48x48, .f32⟩ : BufTy).Contents (Elt F) → (⟨S16x64x48x48, .f32⟩ : BufTy).Contents (Elt F) → (⟨S16x64x48x48, .f32⟩ : BufTy).Contents (Elt F)),
    nullary main_cst_4 (constant S_ .f32 0x00000000#32),
    binary main_v25 main_cst_4 main_v26 ((fun x v => Host.reduceAdd x v reducesTo_S16x64x48x48_S_d0_1_2_3 h_S_) : (⟨S16x64x48x48, .f32⟩ : BufTy).Contents (Elt F) → (⟨S_, .f32⟩ : BufTy).Contents (Elt F) → (⟨S_, .f32⟩ : BufTy).Contents (Elt F)),
    nullary main_cst_5 (constant S_ .f32 0x4A100000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_arg0 main_v30 (subf : (⟨S16x64x48x48, .f32⟩ : BufTy).Contents (Elt F) → (⟨S16x64x48x48, .f32⟩ : BufTy).Contents (Elt F) → (⟨S16x64x48x48, .f32⟩ : BufTy).Contents (Elt F)),
    binary main_arg0 main_v30 main_v31 (addf : (⟨S16x64x48x48, .f32⟩ : BufTy).Contents (Elt F) → (⟨S16x64x48x48, .f32⟩ : BufTy).Contents (Elt F) → (⟨S16x64x48x48, .f32⟩ : BufTy).Contents (Elt F)),
    nullary main_cst_7 (constant S_ .f32 0x00000000#32),
    binary main_v17 main_cst_7 main_v32 ((fun x v => Host.reduceAdd x v reducesTo_S36864x1024_S1024_d0 h_S_) : (⟨S36864x1024, .f32⟩ : BufTy).Contents (Elt F) → (⟨S_, .f32⟩ : BufTy).Contents (Elt F) → (⟨S1024, .f32⟩ : BufTy).Contents (Elt F)),
    nullary main_cst_8 (constant S_ .f32 0x47100000#32),
    unary main_cst_8 main_v33 (broadcastInDim S1024 ![] bcast_S_S1024 : (⟨S_, .f32⟩ : BufTy).Contents (Elt F) → (⟨S1024, .f32⟩ : BufTy).Contents (Elt F)),
    binary main_v32 main_v33 main_v34 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v35 (broadcastInDim S1024 ![] bcast_S_S1024 : (⟨S_, .f32⟩ : BufTy).Contents (Elt F) → (⟨S1024, .f32⟩ : BufTy).Contents (Elt F)),
    binary main_v34 main_v35 main_v36 (addf : (⟨S1024, .f32⟩ : BufTy).Contents (Elt F) → (⟨S1024, .f32⟩ : BufTy).Contents (Elt F) → (⟨S1024, .f32⟩ : BufTy).Contents (Elt F)),
    unary main_v36 main_v37 (Host.log : (⟨S1024, .f32⟩ : BufTy).Contents (Elt F) → (⟨S1024, .f32⟩ : BufTy).Contents (Elt F)),
    binary main_v34 main_v37 main_v38 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v38 main_cst_10 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    unary main_v40 main_v41 (Host.exp : (⟨S_, .f32⟩ : BufTy).Contents (Elt F) → (⟨S_, .f32⟩ : BufTy).Contents (Elt F)) ]

/-- All the operations. -/
abbrev ops : List (HloOp τ sig (Elt F)) := opsDist ++ (opsEnc ++ opsOut)

set_option maxRecDepth 8192 in
set_option maxHeartbeats 4000000 in
/-- The reference is its operations, in order. -/
theorem main_eq (c : Dev nD) : main (F := F) c = seq ops := rfl
/-- The reference has no scoped buffer. -/
theorem no_scoped_refs : (Finset.univ.filter fun b : Ref sig .tc => b.isScoped) = ∅ := by decide
/-- The reference has no scoped semaphore. -/
theorem no_scoped_sems : (Finset.univ.filter fun sm : SemLoc sig => sm.isScoped .tc) = ∅ := by decide
set_option maxRecDepth 8192 in
/-- The first stretch touches the core's buffers only. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
set_option maxRecDepth 8192 in
/-- The second stretch touches the core's buffers only. -/
theorem opsEnc_sub : (opsEnc : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
set_option maxRecDepth 8192 in
/-- The third stretch touches the core's buffers only. -/
theorem opsOut_sub : (opsOut : List (HloOp τ sig (Elt F))).Forall fun op => op.bufs ⊆ tcRefs τ sig :=
  ⟨binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
/-- The operations touch the core's buffers only. -/
theorem ops_sub : (ops : List (HloOp τ sig (Elt F))).Forall fun op => op.bufs ⊆ tcRefs τ sig :=
  List.forall_append.mpr ⟨opsDist_sub, List.forall_append.mpr ⟨opsEnc_sub, opsOut_sub⟩⟩

/-! ## The terms -/

/-- The rows: the input's last axis brought to the channels and flattened. -/
def flat (X : FVec F S16x64x48x48 .f32) : FVec F S36864x64 .f32 :=
  shapeCast S36864x64 (transpose S16x48x48x64 [0, 2, 3, 1] X transposes_S16x64x48x48_S16x48x48x64_0_2_3_1) shapeCasts_S16x48x48x64_S36864x64

/-- The distances of every row to every code. -/
def dist (X : FVec F S16x64x48x48 .f32) (E : FVec F S1024x64 .f32) : FVec F S36864x1024 .f32 :=
  addf (subf (broadcastInDim S36864x1024 ![0, 1] bcast_S36864x1_S36864x1024_0_1 (broadcastInDim S36864x1 ![0] bcast_S36864_S36864x1_0
        (Host.reduceAdd (mulf (flat X) (flat X)) (constant S_ .f32 0x00000000#32) reducesTo_S36864x64_S36864_d1 h_S_)))
      (Host.dotGeneral dot_S36864x64_S64x1024_S36864x1024_1_0_0_1_n_n none
        (mulf (broadcastInDim S36864x64 ![] bcast_S_S36864x64 (constant S_ .f32 0x40000000#32)) (flat X))
        (transpose S64x1024 [1, 0] E transposes_S1024x64_S64x1024_1_0)))
    (broadcastInDim S36864x1024 ![0, 1] bcast_S1x1024_S36864x1024_0_1 (broadcastInDim S1x1024 ![1] bcast_S1024_S1x1024_1
      (Host.reduceAdd (mulf E E) (constant S_ .f32 0x00000000#32) reducesTo_S1024x64_S1024_d1 h_S_)))

/-- The index of the nearest code of every row, from the distances. -/
def near (D : FVec F S36864x1024 .f32) : IVec S36864 32 := fun j =>
  (Host.argReduce reducer_argmin_f32_i32 D (iotaInDim S36864x1024 32 1) (constant S_ .f32 0x7F800000#32) (constantI S_ 32 0#32)
    reducesTo_S36864x1024_S36864_d1 h_S_ j).2

/-- The one-hot row of every index. -/
def oneHot (k : IVec S36864 32) : FVec F S36864x1024 .f32 :=
  uitofp .f32 (cmpi .eq (broadcastInDim S36864x1024 ![0, 1] bcast_S36864x1_S36864x1024_0_1 (broadcastInDim S36864x1 ![0] bcast_S36864_S36864x1_0 k))
    (broadcastInDim S36864x1024 ![0, 1] bcast_S1x1024_S36864x1024_0_1 (iotaInDim S1x1024 32 1)))

/-- The quantized rows, in the input's shape, less the input. -/
def diff (X : FVec F S16x64x48x48 .f32) (E : FVec F S1024x64 .f32) (H : FVec F S36864x1024 .f32) : FVec F S16x64x48x48 .f32 :=
  subf (shapeCast S16x64x48x48 (Host.dotGeneral dot_S36864x1024_S1024x64_S36864x64_1_0_0_1_n_n none H E) shapeCasts_S36864x64_S16x64x48x48) X

/-- The mean of the squares of an array of the input's shape. -/
def meanSq (D : FVec F S16x64x48x48 .f32) : FVec F S_ .f32 :=
  Host.divf (Host.reduceAdd (mulf D D) (constant S_ .f32 0x00000000#32) reducesTo_S16x64x48x48_S_d0_1_2_3 h_S_) (constant S_ .f32 0x4A100000#32)

/-- The loss: the mean square and a quarter of it. -/
def loss (D : FVec F S16x64x48x48 .f32) : FVec F S_ .f32 :=
  addf (meanSq D) (mulf (constant S_ .f32 0x3E800000#32) (meanSq D))

/-- The share of the rows that each code gets. -/
def share (H : FVec F S36864x1024 .f32) : FVec F S1024 .f32 :=
  Host.divf (Host.reduceAdd H (constant S_ .f32 0x00000000#32) reducesTo_S36864x1024_S1024_d0 h_S_)
    (broadcastInDim S1024 ![] bcast_S_S1024 (constant S_ .f32 0x47100000#32))

/-- The perplexity of the shares. -/
def perplexity (p : FVec F S1024 .f32) : FVec F S_ .f32 :=
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-! ## The buffers after each stretch -/

section
variable (W : Valuation τ sig (Elt F))

/-- What the first stretch leaves in the distances' buffer. -/
theorem dist_v15 : after opsDist W (Proc.devRef .tc main_v15) = dist (W (Proc.devRef .tc main_arg0)) (W (Proc.devRef .tc main_arg1)) := by
  after_results_simp <;> rfl
/-- The first stretch leaves the input as it was. -/
theorem dist_arg0 : after opsDist W (Proc.devRef .tc main_arg0) = W (Proc.devRef .tc main_arg0) := by after_results_simp
/-- The first stretch leaves the codes as they were. -/
theorem dist_arg1 : after opsDist W (Proc.devRef .tc main_arg1) = W (Proc.devRef .tc main_arg1) := by after_results_simp

/-- What the second stretch leaves in the one-hot rows' buffer. -/
theorem enc_v17 : after opsEnc W (Proc.devRef .tc main_v17) = oneHot (near (W (Proc.devRef .tc main_v15))) := by
  simp only [opsEnc, TRef.binary, TRef.nullary, TRef.quaternary, TRef.unary, TRef.toBuf, TRef.ofBuf, cast_eq]; after_results_simp <;> rfl
/-- The second stretch leaves the input as it was. -/
theorem enc_arg0 : after opsEnc W (Proc.devRef .tc main_arg0) = W (Proc.devRef .tc main_arg0) := by
  simp only [opsEnc, TRef.binary, TRef.nullary, TRef.quaternary, TRef.unary, TRef.toBuf, TRef.ofBuf, cast_eq]; after_results_simp
/-- The second stretch leaves the codes as they were. -/
theorem enc_arg1 : after opsEnc W (Proc.devRef .tc main_arg1) = W (Proc.devRef .tc main_arg1) := by
  simp only [opsEnc, TRef.binary, TRef.nullary, TRef.quaternary, TRef.unary, TRef.toBuf, TRef.ofBuf, cast_eq]; after_results_simp

/-- What the third stretch leaves in the output's buffer. -/
theorem out_v31 : after opsOut W (Proc.devRef .tc main_v31)
    = addf (W (Proc.devRef .tc main_arg0)) (diff (W (Proc.devRef .tc main_arg0)) (W (Proc.devRef .tc main_arg1)) (W (Proc.devRef .tc main_v17))) := by
  after_results_simp <;> rfl
/-- What the third stretch leaves in the loss's buffer. -/
theorem out_v29 : after opsOut W (Proc.devRef .tc main_v29)
    = loss (diff (W (Proc.devRef .tc main_arg0)) (W (Proc.devRef .tc main_arg1)) (W (Proc.devRef .tc main_v17))) := by
  after_results_simp <;> rfl
/-- What the third stretch leaves in the perplexity's buffer. -/
theorem out_v41 : after opsOut W (Proc.devRef .tc main_v41) = perplexity (share (W (Proc.devRef .tc main_v17))) := by
  after_results_simp <;> rfl
/-- The third stretch leaves the input as it was. -/
theorem out_arg0 : after opsOut W (Proc.devRef .tc main_arg0) = W (Proc.devRef .tc main_arg0) := by after_results_simp
/-- The third stretch leaves the codes as they were. -/
theorem out_arg1 : after opsOut W (Proc.devRef .tc main_arg1) = W (Proc.devRef .tc main_arg1) := by after_results_simp
end

/-- The one-hot rows of the nearest codes, from the arguments. -/
def enc (X : FVec F S16x64x48x48 .f32) (E : FVec F S1024x64 .f32) : FVec F S36864x1024 .f32 := oneHot (near (dist X E))

/-- Every run of the reference ends with the three results at their terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = addf (m ((c.tc : Thread nD τ).loc main_arg0))
          (diff (m ((c.tc : Thread nD τ).loc main_arg0)) (m ((c.tc : Thread nD τ).loc main_arg1)) (enc (m ((c.tc : Thread nD τ).loc main_arg0)) (m ((c.tc : Thread nD τ).loc main_arg1))))
      ∧ r.2.mem ((c.tc : Thread nD τ).loc main_v29)
        = loss (diff (m ((c.tc : Thread nD τ).loc main_arg0)) (m ((c.tc : Thread nD τ).loc main_arg1)) (enc (m ((c.tc : Thread nD τ).loc main_arg0)) (m ((c.tc : Thread nD τ).loc main_arg1))))
      ∧ r.2.mem ((c.tc : Thread nD τ).loc main_v41)
        = perplexity (share (enc (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c main_v31).trans ?_, (h c main_v29).trans ?_, (h c main_v41).trans ?_, (h c main_arg0).trans ?_, (h c main_arg1).trans ?_⟩
    · rw [after_append, after_append, out_v31, enc_v17, enc_arg0, enc_arg1, dist_v15, dist_arg0, dist_arg1]; rfl
    · rw [after_append, after_append, out_v29, enc_v17, enc_arg0, enc_arg1, dist_v15, dist_arg0, dist_arg1]; rfl
    · rw [after_append, after_append, out_v41, enc_v17, dist_v15]; rfl
    · rw [after_append, after_append, out_arg0, enc_arg0, dist_arg0]
    · rw [after_append, after_append, out_arg1, enc_arg1, dist_arg1])
    (run_seq no_scoped_refs no_scoped_sems defs main (fun _ => ops) main_eq (fun _ => ops_sub) m ρ)

/-- The frame: every run ends, with the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems rfl r.2⟩) (run m ρ)

end Cert.ReferenceIdeal.Run

end
-- ==== Proof.RowValue.lean ====
/- One row of distances and its one-hot row, as numbers: what the kernel's payload computes for a row of its block, and what
   the reference computes for a row of the whole array. -/
module

public import proofs.«01_k».proof.Proof.NearestCode
public import proofs.«01_k».proof.Proof.KernelIdealRun
public import proofs.«01_k».proof.Proof.ReferenceRun

@[expose] public section

set_option maxRecDepth 16384

noncomputable section

namespace Cert.Value

open Idealize.ShloMosaic

/-- The distances of one row to every code. -/
def rowDist (x : Fin 64 → EReal) (E : FVec Ideal Cert.KernelIdeal.S1024x64 .f32) (k : Fin 1024) : EReal :=
  (∑ c, x c * x c) - ((2 : ℝ) : EReal) * (∑ c, x c * E (ix2 k c)) + ∑ c, E (ix2 k c) * E (ix2 k c)

/-- The word of a comparison of two codes, read as a number, is one when they are the same and zero otherwise. -/
theorem uitofp_code (j k : Fin 1024) :
    (FloatOps.uitofp .f32 (IntOp.cmpi .eq (BitVec.ofNat 32 j.val) (BitVec.ofNat 32 k.val)) : Ideal .f32) = if j = k then (1 : EReal) else 0 := by
  by_cases h : j = k
  · subst h
    rw [if_pos rfl, show IntOp.cmpi .eq (BitVec.ofNat 32 j.val) (BitVec.ofNat 32 j.val) = 1#1 from by simp [IntOp.cmpi]]
    show (((1#1 : BitVec 1).toNat : ℝ) : EReal) = 1
    simp
  · rw [if_neg h, show IntOp.cmpi .eq (BitVec.ofNat 32 j.val) (BitVec.ofNat 32 k.val) = 0#1 from by
      have hne : BitVec.ofNat 32 j.val ≠ BitVec.ofNat 32 k.val := fun he => h (code_inj he)
      simp only [IntOp.cmpi]; rw [beq_false_of_ne hne]; rfl]
    show (((0#1 : BitVec 1).toNat : ℝ) : EReal) = 0
    simp

/-- The same comparison the other way round, widened to 32 bits and read signed. -/
theorem sitofp_code (j k : Fin 1024) :
    (FloatOps.sitofp .f32 (BitVec.setWidth 32 (IntOp.cmpi .eq (BitVec.ofNat 32 k.val) (BitVec.ofNat 32 j.val))) : Ideal .f32)
      = if j = k then (1 : EReal) else 0 := by
  by_cases h : j = k
  · subst h
    rw [if_pos rfl, show IntOp.cmpi .eq (BitVec.ofNat 32 j.val) (BitVec.ofNat 32 j.val) = 1#1 from by simp [IntOp.cmpi]]
    show ((((1#1 : BitVec 1).setWidth 32).toInt : ℝ) : EReal) = 1
    simp
  · rw [if_neg h, show IntOp.cmpi .eq (BitVec.ofNat 32 k.val) (BitVec.ofNat 32 j.val) = 0#1 from by
      have hne : BitVec.ofNat 32 k.val ≠ BitVec.ofNat 32 j.val := fun he => h (code_inj he).symm
      simp only [IntOp.cmpi]; rw [beq_false_of_ne hne]; rfl]
    show ((((0#1 : BitVec 1).setWidth 32).toInt : ℝ) : EReal) = 0
    simp

section
open Cert.KernelIdeal Cert.KernelIdeal.Gen

/-- The kernel's one-hot block, row by row. -/
theorem kernel_hot (x : Vec Ideal S1152x64 .f32) (E : Vec Ideal S1024x64 .f32) (T : Vec Ideal S64x1024 .f32)
    (hT : ∀ c k, T (ix2 c k) = E (ix2 k c)) (y : Fin 1152) (k : Fin 1024) :
    k0_pay5 x E T (ix2 y k) = hot (rowDist (fun c => x (ix2 y c)) E) k := by
  have htop : Ideal.ofBits .f32 2139095040#32 = ⊤ := by simp [Ideal.ofBits, Ideal.ieee]
  have hf := fold_nearest (rowDist (fun c => x (ix2 y c)) E)
  unfold rowDist at hf
  have hs := sitofp_code (nearest (rowDist (fun c => x (ix2 y c)) E)) k
  unfold rowDist at hs
  pointwise [k0_pay5]
  simp only [hT, htop, ofBits_two]
  rw [hf, hs]
  rfl

end

section
open Cert.ReferenceIdeal Cert.ReferenceIdeal.Gen

/-- The reference's distances, row by row. -/
theorem dist_apply (X : FVec Ideal S16x64x48x48 .f32) (E : FVec Ideal S1024x64 .f32) (r : Fin 36864) (k : Fin 1024) :
    Cert.ReferenceIdeal.Run.dist X E (ix2 r k) = rowDist (fun c => Cert.ReferenceIdeal.Run.flat X (ix2 r c)) E k := by
  pointwise [Cert.ReferenceIdeal.Run.dist]
  simp only [ofBits_two]
  unfold rowDist
  rw [mul_sum_of_nonneg _ _ (by exact_mod_cast (by norm_num : (0 : ℝ) ≤ 2)) (EReal.coe_ne_top 2)]
  simp only [mul_assoc]

/-- The reference's step picks one of its two pairs, and one that is before both. -/
theorem argmin_step (p q : Ideal .f32 × BitVec 32) :
    (Cert.ReferenceIdeal.reducer_argmin_f32_i32 (F := Ideal) p q = p ∨ Cert.ReferenceIdeal.reducer_argmin_f32_i32 (F := Ideal) p q = q)
      ∧ Before (Cert.ReferenceIdeal.reducer_argmin_f32_i32 (F := Ideal) p q) p
      ∧ Before (Cert.ReferenceIdeal.reducer_argmin_f32_i32 (F := Ideal) p q) q := by
  obtain ⟨a, i⟩ := p
  obtain ⟨b, j⟩ := q
  change EReal at a b
  rcases lt_trichotomy a b with h | h | h
  · have e : Cert.ReferenceIdeal.reducer_argmin_f32_i32 (F := Ideal) (a, i) (b, j) = (a, i) := by
      simp [Cert.ReferenceIdeal.reducer_argmin_f32_i32, Ideal.cmpf_def, Ideal.cmp, h, h.ne, Scalar.select, IntOp.ori, IntOp.andi]
    rw [e]; exact ⟨.inl rfl, Before.refl _, .inl h⟩
  · subst h
    by_cases hij : i.toInt < j.toInt
    · have e : Cert.ReferenceIdeal.reducer_argmin_f32_i32 (F := Ideal) (a, i) (a, j) = (a, i) := by
        simp [Cert.ReferenceIdeal.reducer_argmin_f32_i32, Ideal.cmpf_def, Ideal.cmp, Scalar.select, IntOp.ori, IntOp.andi, IntOp.cmpi, BitVec.slt, hij]
      rw [e]; exact ⟨.inl rfl, Before.refl _, .inr ⟨rfl, hij.le⟩⟩
    · have e : Cert.ReferenceIdeal.reducer_argmin_f32_i32 (F := Ideal) (a, i) (a, j) = (a, j) := by
        simp [Cert.ReferenceIdeal.reducer_argmin_f32_i32, Ideal.cmpf_def, Ideal.cmp, Scalar.select, IntOp.ori, IntOp.andi, IntOp.cmpi, BitVec.slt, hij]
      rw [e]; exact ⟨.inr rfl, .inr ⟨rfl, not_lt.mp hij⟩, Before.refl _⟩
  · have e : Cert.ReferenceIdeal.reducer_argmin_f32_i32 (F := Ideal) (a, i) (b, j) = (b, j) := by
      simp [Cert.ReferenceIdeal.reducer_argmin_f32_i32, Ideal.cmpf_def, Ideal.cmp, h.not_gt, h.ne', Scalar.select, IntOp.ori, IntOp.andi]
    rw [e]; exact ⟨.inr rfl, .inl h, Before.refl _⟩

/-- A row of the whole array is the set of places that reduce to it. -/
theorem drop_row (i : S36864x1024.Idx) (r : Fin 36864) :
    reducesTo_S36864x1024_S36864_d1.drop i = ix1 r ↔ i 0 = r := by
  constructor
  · intro h
    have := congrFun h 0
    exact this
  · intro h
    funext a
    obtain rfl : a = 0 := Subsingleton.elim _ _
    exact h

/-- The fiber of an arg-min holds exactly the pairs of the places that reduce to it. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- An arg-min from (+∞, 0) over places `e k`, `k` below 1024, numbered by `k`, gives the nearest one. -/
theorem argReduce_nearest {s t u : Shape} {axes : List (Fin s.rank)} (x : FVec Ideal s .f32) (y : IVec s 32) (ix : FVec Ideal u .f32) (iy : IVec u 32)
    (f : Ideal .f32 × BitVec 32 → Ideal .f32 × BitVec 32 → Ideal .f32 × BitVec 32)
    (hf : ∀ p q, (f p q = p ∨ f p q = q) ∧ Before (f p q) p ∧ Before (f p q) q)
    (h : s.ReducesTo axes t) (hu : 0 < u.numel) (j : t.Idx) (hx : ix (Shape.Idx.first hu) = (⊤ : EReal)) (hy : iy (Shape.Idx.first hu) = 0#32)
    (e : Fin 1024 → s.Idx) (he : ∀ i, h.drop i = j ↔ ∃ k, e k = i) (hk : ∀ k, y (e k) = BitVec.ofNat 32 k.val) :
    (Host.argReduce f x y ix iy h hu j).2 = BitVec.ofNat 32 (nearest fun k => x (e k)).val := by
  rw [Ideal.argReduce_eq_reduce2, Host.reduce2_eq_foldl_fiber, hx, hy]
  refine foldl_nearest f hf (fun k => x (e k)) _ fun p => ?_
  rw [mem_fiber]
  constructor
  · rintro ⟨i, hi, rfl⟩
    obtain ⟨k, rfl⟩ := (he i).mp hi
    exact ⟨k, by rw [hk]⟩
  · rintro ⟨k, rfl⟩
    exact ⟨e k, (he _).mpr ⟨k, rfl⟩, by rw [hk]⟩

/-- The reference's index of the nearest code, by its definition. -/
theorem near_eq : @Cert.ReferenceIdeal.Run.near Ideal _ = fun D j =>
    (Host.argReduce reducer_argmin_f32_i32 D (iotaInDim S36864x1024 32 1) (constant S_ .f32 0x7F800000#32) (constantI S_ 32 0#32)
      reducesTo_S36864x1024_S36864_d1 h_S_ j).2 := rfl

/-- The places that reduce to a row are the row's. -/
theorem drop_row_iff (r : Fin 36864) (i : S36864x1024.Idx) :
    reducesTo_S36864x1024_S36864_d1.drop i = ix1 r ↔ ∃ k : Fin 1024, ix2 r k = i := by
  rw [drop_row]
  constructor
  · rintro rfl
    exact ⟨i 1, (eq_ix2 i).symm⟩
  · rintro ⟨k, rfl⟩
    rfl

/-- The initial distance is +∞. -/
theorem init_top : (constant S_ .f32 0x7F800000#32 : FVec Ideal S_ .f32) (Shape.Idx.first h_S_) = (⊤ : EReal) := by
  have htop : Ideal.ofBits .f32 0x7F800000#32 = ⊤ := by simp [Ideal.ofBits, Ideal.ieee]
  exact htop

/-- The reference's index of the nearest code of a row. -/
theorem near_apply (D : FVec Ideal S36864x1024 .f32) (r : Fin 36864) :
    Cert.ReferenceIdeal.Run.near D (ix1 r) = BitVec.ofNat 32 (nearest fun k => D (ix2 r k)).val :=
  (congrFun (congrFun near_eq D) (ix1 r)).trans
    (argReduce_nearest D _ _ _ reducer_argmin_f32_i32 argmin_step reducesTo_S36864x1024_S36864_d1 h_S_ (ix1 r) init_top rfl
      (fun k => ix2 r k) (drop_row_iff r) fun _ => rfl)

/-- A one-hot array from indices, at a place. -/
theorem oneHot_apply (K : IVec S36864 32) (r : Fin 36864) (k : Fin 1024) :
    Cert.ReferenceIdeal.Run.oneHot (F := Ideal) K (ix2 r k)
      = (FloatOps.uitofp .f32 (IntOp.cmpi .eq (K (ix1 r)) (BitVec.ofNat 32 k.val)) : Ideal .f32) := by
  pointwise [Cert.ReferenceIdeal.Run.oneHot]

/-- The reference's one-hot array, row by row. -/
theorem reference_hot (X : FVec Ideal S16x64x48x48 .f32) (E : FVec Ideal S1024x64 .f32) (r : Fin 36864) (k : Fin 1024) :
    Cert.ReferenceIdeal.Run.enc X E (ix2 r k) = hot (rowDist (fun c => Cert.ReferenceIdeal.Run.flat X (ix2 r c)) E) k := by
  unfold Cert.ReferenceIdeal.Run.enc
  rw [oneHot_apply, near_apply, uitofp_code]
  simp only [dist_apply]
  rfl

end

end Cert.Value
-- ==== Proof.BlockValue.lean ====
/- The blocks a grid point reads, as places of the arrays made from the arguments. -/
module

public import proofs.«01_k».proof.Proof.RowValue
public import Idealize.ShloMosaic.Lib.Pipeline.ValueKit
public import Idealize.ShloMosaic.Lib.Claim

@[expose] public section

set_option maxRecDepth 16384

noncomputable section

namespace Cert.Value

open Idealize.ShloMosaic Idealize.ShloMosaic.TcCoe Cert.KernelIdeal Cert.KernelIdeal.Gen Cert.KernelIdeal.Run

variable (m : (ℓ : Loc nD τ sig) → Buf (Elt Ideal) ℓ) (c : Dev nD)

/-- The input. -/
abbrev X : FVec Ideal S16x64x48x48 .f32 := m ((c : Thread nD τ).loc main_arg0)
/-- The codes. -/
abbrev E : FVec Ideal S1024x64 .f32 := m ((c : Thread nD τ).loc main_arg1)

/-- Row `y` of the block of point `t`, in the whole array. -/
def rowOf (t : Fin cfg0.N) (y : Fin 1152) : Fin 36864 := ⟨t.val * 1152 + y.val, by have := t.isLt; have := y.isLt; have h : cfg0.N = 32 := N_0; omega⟩

/-- The input's rows in the order it lies in memory. -/
def rows (X : FVec Ideal S16x64x48x48 .f32) : FVec Ideal S36864x64 .f32 := shapeCast S36864x64 X shapeCasts_S16x64x48x48_S36864x64

/-- At point `t` window 0 reads block row `t`. -/
theorem index0 : ∀ t : Fin grid0.N, win0_0.index t = ![t.val, 0] := by decide +kernel
/-- At point `t` window 1 reads block row `t`. -/
theorem index1 : ∀ t : Fin grid0.N, win0_1.index t = ![t.val, 0] := by decide +kernel
/-- Window 2 reads the same block at every point. -/
theorem index2 : ∀ t : Fin grid0.N, win0_2.index t = ![0, 0] := by decide +kernel
/-- Window 3 reads the same block at every point. -/
theorem index3 : ∀ t : Fin grid0.N, win0_3.index t = ![0, 0] := by decide +kernel
/-- At point `t` window 4 writes block row `t`. -/
theorem index4 : ∀ t : Fin grid0.N, win0_4.index t = ![t.val, 0] := by decide +kernel

/-- The launch finds in window 0's array the rows of the input with its channels moved last. -/
theorem V_v1 : V m c main_call0_v1 = Cert.ReferenceIdeal.Run.flat (X m c) := by
  entry_read
  rfl
/-- The launch finds in window 1's array the rows of the input as it lies in memory. -/
theorem V_v2 : V m c main_call0_v2 = rows (X m c) := by
  entry_read
  rfl
/-- The launch finds in window 2's array the transposed codes. -/
theorem V_v3 : V m c main_call0_v3 = transpose S64x1024 [1, 0] (E m c) transposes_S1024x64_S64x1024_1_0 := by
  entry_read
  rfl

variable (t : Fin cfg0.N)

/-- A place of window 0's block. -/
theorem blk0 (y : Fin 1152) (k : Fin 64) : iblk m c 0 t (ix2 y k) = Cert.ReferenceIdeal.Run.flat (X m c) (ix2 (rowOf t y) k) := by
  rw [← V_v1]
  blk_ext! [iblk, V, index0 t]
  rfl
/-- A place of window 1's block. -/
theorem blk1 (y : Fin 1152) (k : Fin 64) : iblk m c 1 t (ix2 y k) = rows (X m c) (ix2 (rowOf t y) k) := by
  rw [← V_v2]
  blk_ext! [iblk, V, index1 t]
  rfl
/-- A place of window 2's block: a place of the codes, transposed. -/
theorem blk2 (k : Fin 64) (j : Fin 1024) : iblk m c 2 t (ix2 k j) = E m c (ix2 j k) := by
  trans V m c main_call0_v3 (ix2 k j)
  · blk_ext! [iblk, V, index2 t]
  · rw [V_v3]; pointwise
/-- A place of window 3's block: the same place of the codes. -/
theorem blk3 (j : Fin 1024) (k : Fin 64) : iblk m c 3 t (ix2 j k) = E m c (ix2 j k) := by
  trans V m c main_arg1 (ix2 j k)
  · blk_ext! [iblk, V, index3 t]
  · rw [V_main_arg1]

end Cert.Value
-- ==== Proof.PointValue.lean ====
/- What a grid point stores and adds to the totals, as places of arrays made from the two arguments. -/
module

public import proofs.«01_k».proof.Proof.BlockValue

@[expose] public section

set_option maxRecDepth 16384

noncomputable section

namespace Cert.Value

open Idealize.ShloMosaic Idealize.ShloMosaic.TcCoe Cert.KernelIdeal Cert.KernelIdeal.Gen Cert.KernelIdeal.Run

/-- The one-hot rows the reference makes of the arguments. -/
abbrev hots (X : FVec Ideal S16x64x48x48 .f32) (E : FVec Ideal S1024x64 .f32) : FVec Ideal Cert.ReferenceIdeal.S36864x1024 .f32 := Cert.ReferenceIdeal.Run.enc X E

/-- The codes picked for all rows, less the rows of the input. -/
def gap (X : FVec Ideal S16x64x48x48 .f32) (E : FVec Ideal S1024x64 .f32) : FVec Ideal S36864x64 .f32 :=
  subf (Host.dotGeneral Cert.ReferenceIdeal.dot_S36864x1024_S1024x64_S36864x64_1_0_0_1_n_n none (hots X E) E) (rows X)

/-- A place of the difference: a sum over the codes, less the input. -/
theorem gap_apply (X : FVec Ideal S16x64x48x48 .f32) (E : FVec Ideal S1024x64 .f32) (r : Fin 36864) (j : Fin 64) :
    gap X E (ix2 r j) = (∑ k : Fin 1024, hots X E (ix2 r k) * E (ix2 k j)) - rows X (ix2 r j) := by
  unfold gap hots
  generalize Cert.ReferenceIdeal.Run.enc X E = H
  generalize rows X = R
  pointwise

/-- A place of the point's difference, from its one-hot block. -/
theorem pay7_apply (x : Vec Ideal S1152x64 .f32) (E : Vec Ideal S1024x64 .f32) (T : Vec Ideal S64x1024 .f32) (z : Vec Ideal S1152x64 .f32)
    (y : Fin 1152) (j : Fin 64) :
    k0_pay7 x E T z (ix2 y j) = (∑ k : Fin 1024, k0_pay5 x E T (ix2 y k) * E (ix2 k j)) - z (ix2 y j) := by
  unfold k0_pay7
  generalize k0_pay5 x E T = H
  pointwise [k0_pay6]

/-- A place of what the point stores. -/
theorem pay8_apply (x : Vec Ideal S1152x64 .f32) (E : Vec Ideal S1024x64 .f32) (T : Vec Ideal S64x1024 .f32) (z : Vec Ideal S1152x64 .f32)
    (y : Fin 1152) (j : Fin 64) :
    k0_pay8 x E T z (ix2 y j) = z (ix2 y j) + k0_pay7 x E T z (ix2 y j) := by
  unfold k0_pay8
  generalize k0_pay7 x E T z = H
  pointwise [k0_pay6]

/-- A choice by whether a word is zero. -/
theorem select_zero {α : Type} (a : BitVec 32) (x y : α) : Scalar.select (Scalar.cmpi .eq a 0#32) x y = if a = 0#32 then x else y := by
  by_cases h : a = 0#32
  · subst h; rfl
  · have hb : (a == 0#32) = false := by simpa using h
    simp [Scalar.select, Scalar.cmpi, IntOp.cmpi, h, hb]

/-- The squared-error total after a point: the one before, which the first point takes for zero, and the point's squares. -/
theorem pay1_apply (a : BitVec 32) (x : Vec Ideal S1152x64 .f32) (E : Vec Ideal S1024x64 .f32) (T : Vec Ideal S64x1024 .f32) (z : Vec Ideal S1152x64 .f32)
    (s : Ideal .f32) :
    k0_pay1 a (k0_pay9 x E T z) s = (if a = 0#32 then 0 else s : EReal)
      + ∑ y : Fin 1152, ∑ j : Fin 64, k0_pay7 x E T z (ix2 y j) * k0_pay7 x E T z (ix2 y j) := by
  unfold k0_pay9
  generalize k0_pay7 x E T z = H
  pointwise [k0_pay1]
  rw [select_zero]

/-- The count of a code after a point: the one before, which the first point takes for zero, and the point's. -/
theorem pay2_apply (a : BitVec 32) (H : FVec Ideal S1152x1024 .f32) (n : Vec Ideal S1x1024 .f32) (k : Fin 1024) :
    k0_pay2 a H n (ix2 0 k) = (if a = 0#32 then 0 else n (ix2 0 k) : EReal) + ∑ y : Fin 1152, H (ix2 y k) := by
  pointwise [k0_pay2]
  rw [select_zero]

variable (m : (ℓ : Loc nD τ sig) → Buf (Elt Ideal) ℓ) (c : Dev nD) (t : Fin cfg0.N)

/-- The codes' block is the codes. -/
theorem codes : (iblk m c 3 t : Vec Ideal S1024x64 .f32) = E m c := by
  funext i
  idx_vars i
  exact blk3 m c t _ _

/-- The point's one-hot block. -/
theorem hot_blk (y : Fin 1152) (k : Fin 1024) :
    k0_pay5 (iblk m c 0 t) (iblk m c 3 t) (iblk m c 2 t) (ix2 y k) = hots (X m c) (E m c) (ix2 (rowOf t y) k) := by
  unfold hots
  rw [reference_hot, kernel_hot _ _ _ (fun j k => (blk2 m c t j k).trans (blk3 m c t k j).symm), codes]
  simp only [blk0]

/-- The point's difference. -/
theorem gap_blk (y : Fin 1152) (j : Fin 64) :
    k0_pay7 (iblk m c 0 t) (iblk m c 3 t) (iblk m c 2 t) (iblk m c 1 t) (ix2 y j) = gap (X m c) (E m c) (ix2 (rowOf t y) j) := by
  rw [pay7_apply, gap_apply, blk1]
  simp only [hot_blk, blk3]

/-- What the point stores. -/
theorem out_blk (y : Fin 1152) (j : Fin 64) :
    k0_pay8 (iblk m c 0 t) (iblk m c 3 t) (iblk m c 2 t) (iblk m c 1 t) (ix2 y j)
      = addf (rows (X m c)) (gap (X m c) (E m c)) (ix2 (rowOf t y) j) := by
  rw [pay8_apply, gap_blk, blk1]
  rfl

end Cert.Value
-- ==== Proof.Results.lean ====
/- The launch's three results, as the arrays and numbers the reference computes. -/
module

public import proofs.«01_k».proof.Proof.PointValue

@[expose] public section

set_option maxRecDepth 16384

noncomputable section

namespace Cert.Value

open Idealize.ShloMosaic Idealize.ShloMosaic.TcCoe Idealize.SL.Sem Cert.KernelIdeal Cert.KernelIdeal.Gen Cert.KernelIdeal.Run

variable (m : (ℓ : Loc nD τ sig) → Buf (Elt Ideal) ℓ) (c : Dev nD)

/-! ## The totals -/

/-- The squared error of a point's rows. -/
def sqAt (t : Fin cfg0.N) : EReal :=
  ∑ y : Fin 1152, ∑ j : Fin 64, gap (X m c) (E m c) (ix2 (rowOf t y) j) * gap (X m c) (E m c) (ix2 (rowOf t y) j)

/-- How many of a point's rows take a code. -/
def cntAt (k : Fin 1024) (t : Fin cfg0.N) : EReal := ∑ y : Fin 1152, hots (X m c) (E m c) (ix2 (rowOf t y) k)

/-- A point's number is zero as a word only at the first point. -/
theorem word_zero : ∀ t : Fin grid0.N, BitVec.ofNat 32 t.val = 0#32 → t.val = 0 := by decide +kernel

/-- Before the first point the squared-error total is zero. -/
theorem totals_zero1 : (totals m c 0).1 at00 = (0 : EReal) := by
  show Ideal.ofBits .f32 0x00000000#32 = 0
  exact Ideal.ofBits_zero_f32

/-- Before the first point every count is zero. -/
theorem totals_zero2 (k : Fin 1024) : (totals m c 0).2 (ix2 0 k) = (0 : EReal) := by
  show Ideal.ofBits .f32 0x00000000#32 = 0
  exact Ideal.ofBits_zero_f32

/-- One more point adds its squared error. -/
theorem total1_succ (t : Fin cfg0.N) : (totals m c (t.val + 1)).1 at00 = ((totals m c t.val).1 at00 : EReal) + sqAt m c t := by
  rw [totals_succ]
  dsimp only
  unfold sseStep
  rw [coord_val, pay1_apply]
  simp only [gap_blk]
  refine congrArg (· + sqAt m c t) ?_
  split
  · next h => rw [word_zero t h]; exact (totals_zero1 m c).symm
  · rfl

/-- One more point adds its counts. -/
theorem total2_succ (k : Fin 1024) (t : Fin cfg0.N) :
    (totals m c (t.val + 1)).2 (ix2 0 k) = ((totals m c t.val).2 (ix2 0 k) : EReal) + cntAt m c k t := by
  rw [totals_succ]
  dsimp only
  unfold cntStep
  rw [coord_val, pay2_apply]
  simp only [hot_blk]
  refine congrArg (· + cntAt m c k t) ?_
  split
  · next h => rw [word_zero t h]; exact (totals_zero2 m c k).symm
  · rfl

/-- A quantity that starts at zero and gains a term at each point is, after the last, the sum of the terms. -/
theorem sum_of_steps (f : ℕ → EReal) (g : Fin 32 → EReal) (h0 : f 0 = 0) (hs : ∀ t : Fin 32, f (t.val + 1) = f t.val + g t) :
    f 32 = ∑ t, g t := by
  have h : ∀ n, n ≤ 32 → f n = ∑ i ∈ Finset.range n, if h : i < 32 then g ⟨i, h⟩ else 0 := by
    intro n
    induction n with
    | zero => intro _; rw [h0, Finset.sum_range_zero]
    | succ n ih =>
      intro hn
      rw [Finset.sum_range_succ, dif_pos (by omega), ← ih (by omega)]
      exact hs ⟨n, by omega⟩
  rw [h 32 le_rfl, Finset.sum_range]
  exact Finset.sum_congr rfl fun t _ => dif_pos t.isLt

/-- The rows of all points are all the rows. -/
theorem sum_rows (f : Fin 36864 → EReal) : ∑ t : Fin 32, ∑ y : Fin 1152, f (rowOf t y) = ∑ r, f r :=
  Fin.sum_mul_add_fin 32 1152 f rfl

/-- The squared-error total after the last point. -/
theorem total1 : (totals m c 32).1 at00 = ∑ i : S36864x64.Idx, gap (X m c) (E m c) i * gap (X m c) (E m c) i := by
  rw [sum_of_steps (fun n => (totals m c n).1 at00) (sqAt m c) (totals_zero1 m c) (total1_succ m c), sum_idx2]
  exact sum_rows fun r => ∑ j : Fin 64, gap (X m c) (E m c) (ix2 r j) * gap (X m c) (E m c) (ix2 r j)

/-- The counts after the last point. -/
theorem total2 (k : Fin 1024) : (totals m c 32).2 (ix2 0 k) = ∑ r : Fin 36864, hots (X m c) (E m c) (ix2 r k) := by
  rw [sum_of_steps (fun n => (totals m c n).2 (ix2 0 k)) (cntAt m c k) (totals_zero2 m c k) (total2_succ m c k)]
  exact sum_rows fun r => hots (X m c) (E m c) (ix2 r k)

/-! ## The results -/

/-- The last point. -/
def lastPt : Fin cfg0.N := ⟨31, by decide⟩

/-- The first result before its reshape: the input plus the difference. -/
theorem arr4 : (dats m 0 c).arrAt 4 cfg0.N = addf (rows (X m c)) (gap (X m c) (E m c)) :=
  (dats m 0 c).arrAt_eq_of_covers 4 _ (by decide +kernel) fun t hf y => by
    blk_simp
    rw [after4]
    idx_vars y
    rw [out_blk]
    refine congrArg (addf (rows (X m c)) (gap (X m c) (E m c))) ?_
    blk_ext! [index4 t]
    rfl

/-- The second result: the loss of the squared-error total. -/
theorem arr5 : (dats m 0 c).arrAt 5 cfg0.N = k0_pay3 ((totals m c 32).1 at00) :=
  (dats m 0 c).arrAt_eq_of_after_last 5 lastPt (by decide +kernel) _ fun j => by
    blk_simp
    rw [after5]
    rfl

/-- The third result: the perplexity of the counts. -/
theorem arr6 : (dats m 0 c).arrAt 6 cfg0.N = k0_pay4 (totals m c 32).2 :=
  (dats m 0 c).arrAt_eq_of_after_last 6 lastPt (by decide +kernel) _ fun j => by
    blk_simp
    rw [after6]
    rfl

/-! ## Against the reference -/

/-- The difference in the input's shape is the reference's. -/
theorem diff_eq (X : FVec Ideal S16x64x48x48 .f32) (E : FVec Ideal S1024x64 .f32) :
    Cert.ReferenceIdeal.Run.diff X E (hots X E) = shapeCast S16x64x48x48 (gap X E) shapeCasts_S36864x64_S16x64x48x48 := by
  have h : X = shapeCast S16x64x48x48 (rows X) shapeCasts_S36864x64_S16x64x48x48 := by
    unfold rows
    rw [shapeCast_shapeCast]
  unfold Cert.ReferenceIdeal.Run.diff gap
  conv_lhs => arg 2; rw [h]
  rfl

/-- The first result. -/
theorem result0 (X : FVec Ideal S16x64x48x48 .f32) (E : FVec Ideal S1024x64 .f32) :
    shapeCast S16x64x48x48 (addf (rows X) (gap X E)) shapeCasts_S36864x64_S16x64x48x48
      = addf X (Cert.ReferenceIdeal.Run.diff X E (hots X E)) := by
  have h : X = shapeCast S16x64x48x48 (rows X) shapeCasts_S36864x64_S16x64x48x48 := by
    unfold rows
    rw [shapeCast_shapeCast]
  rw [diff_eq]
  conv_rhs => arg 1; rw [h]
  rfl

/-- The mean of squares of the reshaped difference, as a sum over the rows. -/
theorem meanSq_eq (D : FVec Ideal S36864x64 .f32) (j : S_.Idx) :
    Cert.ReferenceIdeal.Run.meanSq (shapeCast S16x64x48x48 D shapeCasts_S36864x64_S16x64x48x48) j
      = Ideal.div (∑ i : S36864x64.Idx, D i * D i) (Ideal.ofBits .f32 0x4A100000#32) := by
  refine congrArg (Ideal.div · (Ideal.ofBits .f32 0x4A100000#32)) ?_
  refine (Ideal.hostReduceAdd_total Cert.ReferenceIdeal.Gen.reducesTo_S16x64x48x48_S_d0_1_2_3 (fun b => b.elim0)
    (fun i => shapeCast S16x64x48x48 D shapeCasts_S36864x64_S16x64x48x48 i * shapeCast S16x64x48x48 D shapeCasts_S36864x64_S16x64x48x48 i)
    (Ideal.ofBits .f32 0x00000000#32) j).trans ?_
  rw [Ideal.ofBits_zero_f32, zero_add]
  exact (Shape.reshapeEquiv shapeCasts_S36864x64_S16x64x48x48).sum_comp fun i => D i * D i

/-- The second result. -/
theorem result1 : shapeCast S_ (k0_pay3 ((totals m c 32).1 at00)) shapeCasts_S1x1_S_
      = Cert.ReferenceIdeal.Run.loss (Cert.ReferenceIdeal.Run.diff (X m c) (E m c) (hots (X m c) (E m c))) := by
  funext j
  rw [diff_eq, total1]
  have h := meanSq_eq (gap (X m c) (E m c)) j
  generalize shapeCast S16x64x48x48 (gap (X m c) (E m c)) shapeCasts_S36864x64_S16x64x48x48 = D at h ⊢
  unfold Cert.ReferenceIdeal.Run.loss
  generalize Cert.ReferenceIdeal.Run.meanSq D = M at h ⊢
  generalize (∑ i, gap (X m c) (E m c) i * gap (X m c) (E m c) i : EReal) = S at h ⊢
  pointwise [k0_pay3]
  rw [h]

/-- The third result. -/
theorem result2 : shapeCast S_ (k0_pay4 (totals m c 32).2) shapeCasts_S1x1_S_
      = Cert.ReferenceIdeal.Run.perplexity (Cert.ReferenceIdeal.Run.share (hots (X m c) (E m c))) := by
  have h := total2 m c
  generalize (totals m c 32).2 = T at h ⊢
  generalize hots (X m c) (E m c) = H at h ⊢
  funext j
  pointwise [k0_pay4, Cert.ReferenceIdeal.Run.perplexity, Cert.ReferenceIdeal.Run.share]
  simp only [h, Fin.sum_univ_one, zero_sub]
  rfl

/-! ## The kernel's run -/

/-- What the reshapes after the launch find in a window's array. -/
theorem exit_arr (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) _ w

/-- The first result is the output array in the input's shape. -/
theorem tail_out : Pipeline.afterTail₀ cfgs (dats m) 0 (V0 m) [hostOps1] c main_v0_0
    = shapeCast S16x64x48x48 ((dats m 0 c).arrAt 4 cfg0.N) shapeCasts_S36864x64_S16x64x48x48 := by
  rw [← exit_arr]
  unfold Pipeline.afterTail₀
  simp only [hostOps1, List.flatten_cons, List.flatten_nil, List.append_nil]
  generalize Pipeline.withArrays (cfgs 0).spec c (V0 m c) (fun w => (dats m 0 c).arrAt w (cfgs 0).N) = W
  after_results
  rfl

/-- The second result is the one element of the loss array. -/
theorem tail_loss : Pipeline.afterTail₀ cfgs (dats m) 0 (V0 m) [hostOps1] c main_v0_1
    = shapeCast S_ ((dats m 0 c).arrAt 5 cfg0.N) shapeCasts_S1x1_S_ := by
  rw [← exit_arr]
  unfold Pipeline.afterTail₀
  simp only [hostOps1, List.flatten_cons, List.flatten_nil, List.append_nil]
  generalize Pipeline.withArrays (cfgs 0).spec c (V0 m c) (fun w => (dats m 0 c).arrAt w (cfgs 0).N) = W
  after_results
  rfl

/-- The third result is the one element of the perplexity array. -/
theorem tail_perplexity : Pipeline.afterTail₀ cfgs (dats m) 0 (V0 m) [hostOps1] c main_v0_2
    = shapeCast S_ ((dats m 0 c).arrAt 6 cfg0.N) shapeCasts_S1x1_S_ := by
  rw [← exit_arr]
  unfold Pipeline.afterTail₀
  simp only [hostOps1, List.flatten_cons, List.flatten_nil, List.append_nil]
  generalize Pipeline.withArrays (cfgs 0).spec c (V0 m c) (fun w => (dats m 0 c).arrAt w (cfgs 0).N) = W
  after_results
  rfl

/-- The kernel's run on real numbers: its results are the reference's terms of its arguments, and the arguments are unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v0_0) = addf (X m c) (Cert.ReferenceIdeal.Run.diff (X m c) (E m c) (hots (X m c) (E m c)))
    ∧ r.2.mem ((c.tc : Thread nD τ).loc main_v0_1) = Cert.ReferenceIdeal.Run.loss (Cert.ReferenceIdeal.Run.diff (X m c) (E m c) (hots (X m c) (E m c)))
    ∧ r.2.mem ((c.tc : Thread nD τ).loc main_v0_2) = Cert.ReferenceIdeal.Run.perplexity (Cert.ReferenceIdeal.Run.share (hots (X m c) (E m c)))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  have h := (θ_run defs _ _).mono (fun _ h => h.1) (run m ρ)
  run_from h
  · rw [tail_out, arr4]; exact result0 (X m c) (E m c)
  · rw [tail_loss, arr5]; exact result1 m c
  · rw [tail_perplexity, arr6]; exact result2 m c
  · exact W_main_arg0 m (dats m) c

end Cert.Value
-- ==== Proof.lean ====
module

public import proofs.«01_k».proof.Defs
public import proofs.«01_k».proof.Proof.KernelRun
public import proofs.«01_k».proof.Proof.Results

@[expose] public section

noncomputable section

namespace Cert.Proof

open Idealize.ShloMosaic Idealize.SL.Sem Cert.Kernel

attribute [local instance] Cert.KernelIdeal.Gen.facts Cert.ReferenceIdeal.Gen.facts

/-- From equal arguments, the idealized kernel and the reference end with equal results: the output, the loss and the
    perplexity are the reference's terms of the arguments in both runs. -/
theorem same_results : Cert.algebraic_KernelIdeal_ReferenceIdeal := by
  intro m ρ m' ρ' _ h
  refine ⟨_, _, _, Cert.Value.kernel_run m ρ, (θ_run _ _ _).mono (fun r hr c => ?_) (Cert.ReferenceIdeal.Run.run m' ρ')⟩
  obtain ⟨h0, h1⟩ := h c
  obtain ⟨r0, r1, r2, ra, rb⟩ := hr c
  rw [h0, h1] at r0 r1 r2
  exact ⟨r0, r1, r2, ra, rb⟩

/-- Every program runs to completion, leaves its arguments unchanged and every semaphore at zero; the idealized kernel
    is what the rules state; and it computes the reference's results. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Run.frame m ρ, trivial, same_results⟩

end Cert.Proof

end
